-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 64]⟩ ⟨2, ![4096, 2048]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x64 : Shape := ⟨2, ![4096, 64]⟩
abbrev S2x128x4096 : Shape := ⟨3, ![2, 128, 4096]⟩
abbrev S2 : Shape := ⟨1, ![2]⟩
abbrev S_ : Shape := ⟨0, ![]⟩
abbrev S1x128x4096 : Shape := ⟨3, ![1, 128, 4096]⟩
abbrev S128x64 : Shape := ⟨2, ![128, 64]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S128x4096, .f32⟩
  | .hbm, ⟨1, _⟩ => ⟨S4096x64, .f32⟩
  | .hbm, ⟨2, _⟩ => ⟨S4096x64, .f32⟩
  | .local _ .vmem, ⟨0, _⟩ => ⟨S128x4096, .f32⟩
  | .local _ .vmem, ⟨1, _⟩ => ⟨S4096x64, .f32⟩
  | .local _ .vmem, ⟨2, _⟩ => ⟨S4096x64, .f32⟩
  | .local _ .vmem, ⟨3, _⟩ => ⟨S2x128x4096, .f32⟩
  | .local _ .vmem, ⟨4, _⟩ => ⟨S2x128x4096, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 3 → Bool
  | ⟨0, _⟩ => true
  | ⟨1, _⟩ => true
  | ⟨2, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 3 11 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_8 : BitVec 32 := 1#32
  let v11 : BitVec 32 := Scalar.muli v4 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v28 : BitVec 32 := Scalar.muli v2 c128_i32
  let v29 : Index := Scalar.indexCast v28
  let c0_23 : Index := 0#32
  ![v29.toNat, 0]
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_28 : BitVec 32 := 1#32
  let v31 : BitVec 32 := Scalar.muli v4 c1_i32_28
  let v32 : BitVec 32 := Scalar.addi c0_i32_29 v31
  v32.toNat
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_38 : BitVec 32 := 1#32
  let v41 : BitVec 32 := Scalar.muli v7 c1_i32_38
  let v42 : BitVec 32 := Scalar.addi c0_i32_39 v41
  v42.toNat
def k0_dev5 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_83 : BitVec 32 := 1#32
  let v79 : BitVec 32 := Scalar.muli v7 c1_i32_83
  let v80 : BitVec 32 := Scalar.addi c0_i32_84 v79
  v80.toNat
def k0_dev6 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_86 : BitVec 32 := 1#32
  let v81 : BitVec 32 := Scalar.muli v4 c1_i32_86
  let v82 : BitVec 32 := Scalar.addi c0_i32_87 v81
  v82.toNat
def k0_off2 (d0 : Dev nD) (c1_i32_89 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_88 : BitVec 32 := 32#32
  let v83 : BitVec 32 := Scalar.addi v2 c32_i32_88
  let v84 : BitVec 32 := Scalar.subi v83 c1_i32_89
  let c32_i32_90 : BitVec 32 := 32#32
  let v85 : BitVec 32 := Scalar.remsi v84 c32_i32_90
  let c128_i32_96 : BitVec 32 := 128#32
  let v91 : BitVec 32 := Scalar.muli v85 c128_i32_96
  let v92 : Index := Scalar.indexCast v91
  let c0_97 : Index := 0#32
  ![v92.toNat, 0]
def k0_off3 (d0 : Dev nD) (c1_i32_98 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v94 : BitVec 32 := Scalar.addi v2 c1_i32_98
  let c32_i32_99 : BitVec 32 := 32#32
  let v95 : BitVec 32 := Scalar.remsi v94 c32_i32_99
  let c128_i32_106 : BitVec 32 := 128#32
  let v101 : BitVec 32 := Scalar.muli v95 c128_i32_106
  let v102 : Index := Scalar.indexCast v101
  let c0_107 : Index := 0#32
  ![v102.toNat, 0]
def k0_dev7 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_114 : BitVec 32 := 1#32
  let v104 : BitVec 32 := Scalar.muli v4 c1_i32_114
  let v105 : BitVec 32 := Scalar.addi c0_i32_115 v104
  v105.toNat
def k0_dev8 (d0 : Dev nD) : Nat :=
  let c0_i32_127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_126 : BitVec 32 := 1#32
  let v114 : BitVec 32 := Scalar.muli v7 c1_i32_126
  let v115 : BitVec 32 := Scalar.addi c0_i32_127 v114
  v115.toNat
def k0_dev9 (d0 : Dev nD) : Nat :=
  let c0_i32_172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_171 : BitVec 32 := 1#32
  let v152 : BitVec 32 := Scalar.muli v7 c1_i32_171
  let v153 : BitVec 32 := Scalar.addi c0_i32_172 v152
  v153.toNat
def k0_dev10 (d0 : Dev nD) : Nat :=
  let c0_i32_175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_174 : BitVec 32 := 1#32
  let v154 : BitVec 32 := Scalar.muli v4 c1_i32_174
  let v155 : BitVec 32 := Scalar.addi c0_i32_175 v154
  v155.toNat
def k0_dev11 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_203 : BitVec 32 := 1#32
  let v177 : BitVec 32 := Scalar.muli v4 c1_i32_203
  let v178 : BitVec 32 := Scalar.addi c0_i32_204 v177
  v178.toNat
def k0_dev12 (d0 : Dev nD) : Nat :=
  let c0_i32_216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_215 : BitVec 32 := 1#32
  let v187 : BitVec 32 := Scalar.muli v7 c1_i32_215
  let v188 : BitVec 32 := Scalar.addi c0_i32_216 v187
  v188.toNat
def k0_dev13 (d0 : Dev nD) : Nat :=
  let c0_i32_261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_260 : BitVec 32 := 1#32
  let v225 : BitVec 32 := Scalar.muli v7 c1_i32_260
  let v226 : BitVec 32 := Scalar.addi c0_i32_261 v225
  v226.toNat
def k0_dev14 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_263 : BitVec 32 := 1#32
  let v227 : BitVec 32 := Scalar.muli v4 c1_i32_263
  let v228 : BitVec 32 := Scalar.addi c0_i32_264 v227
  v228.toNat
def k0_dev15 (d0 : Dev nD) : Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_291 : BitVec 32 := 1#32
  let v250 : BitVec 32 := Scalar.muli v4 c1_i32_291
  let v251 : BitVec 32 := Scalar.addi c0_i32_292 v250
  v251.toNat
def k0_dev16 (d0 : Dev nD) : Nat :=
  let c0_i32_304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_303 : BitVec 32 := 1#32
  let v260 : BitVec 32 := Scalar.muli v7 c1_i32_303
  let v261 : BitVec 32 := Scalar.addi c0_i32_304 v260
  v261.toNat
def k0_dev17 (d0 : Dev nD) : Nat :=
  let c0_i32_349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_348 : BitVec 32 := 1#32
  let v298 : BitVec 32 := Scalar.muli v7 c1_i32_348
  let v299 : BitVec 32 := Scalar.addi c0_i32_349 v298
  v299.toNat
def k0_dev18 (d0 : Dev nD) : Nat :=
  let c0_i32_352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_351 : BitVec 32 := 1#32
  let v300 : BitVec 32 := Scalar.muli v4 c1_i32_351
  let v301 : BitVec 32 := Scalar.addi c0_i32_352 v300
  v301.toNat
def k0_dev19 (d0 : Dev nD) : Nat :=
  let c0_i32_380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_379 : BitVec 32 := 1#32
  let v323 : BitVec 32 := Scalar.muli v4 c1_i32_379
  let v324 : BitVec 32 := Scalar.addi c0_i32_380 v323
  v324.toNat
def k0_dev20 (d0 : Dev nD) : Nat :=
  let c0_i32_392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_391 : BitVec 32 := 1#32
  let v333 : BitVec 32 := Scalar.muli v7 c1_i32_391
  let v334 : BitVec 32 := Scalar.addi c0_i32_392 v333
  v334.toNat
def k0_dev21 (d0 : Dev nD) : Nat :=
  let c0_i32_437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_436 : BitVec 32 := 1#32
  let v371 : BitVec 32 := Scalar.muli v7 c1_i32_436
  let v372 : BitVec 32 := Scalar.addi c0_i32_437 v371
  v372.toNat
def k0_dev22 (d0 : Dev nD) : Nat :=
  let c0_i32_440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_439 : BitVec 32 := 1#32
  let v373 : BitVec 32 := Scalar.muli v4 c1_i32_439
  let v374 : BitVec 32 := Scalar.addi c0_i32_440 v373
  v374.toNat
def k0_dev23 (d0 : Dev nD) : Nat :=
  let c0_i32_468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_467 : BitVec 32 := 1#32
  let v396 : BitVec 32 := Scalar.muli v4 c1_i32_467
  let v397 : BitVec 32 := Scalar.addi c0_i32_468 v396
  v397.toNat
def k0_dev24 (d0 : Dev nD) : Nat :=
  let c0_i32_480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_479 : BitVec 32 := 1#32
  let v406 : BitVec 32 := Scalar.muli v7 c1_i32_479
  let v407 : BitVec 32 := Scalar.addi c0_i32_480 v406
  v407.toNat
def k0_dev25 (d0 : Dev nD) : Nat :=
  let c0_i32_525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_524 : BitVec 32 := 1#32
  let v444 : BitVec 32 := Scalar.muli v7 c1_i32_524
  let v445 : BitVec 32 := Scalar.addi c0_i32_525 v444
  v445.toNat
def k0_dev26 (d0 : Dev nD) : Nat :=
  let c0_i32_528 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_527 : BitVec 32 := 1#32
  let v446 : BitVec 32 := Scalar.muli v4 c1_i32_527
  let v447 : BitVec 32 := Scalar.addi c0_i32_528 v446
  v447.toNat
def k0_dev27 (d0 : Dev nD) : Nat :=
  let c0_i32_556 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_555 : BitVec 32 := 1#32
  let v469 : BitVec 32 := Scalar.muli v4 c1_i32_555
  let v470 : BitVec 32 := Scalar.addi c0_i32_556 v469
  v470.toNat
def k0_dev28 (d0 : Dev nD) : Nat :=
  let c0_i32_568 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_567 : BitVec 32 := 1#32
  let v479 : BitVec 32 := Scalar.muli v7 c1_i32_567
  let v480 : BitVec 32 := Scalar.addi c0_i32_568 v479
  v480.toNat
def k0_dev29 (d0 : Dev nD) : Nat :=
  let c0_i32_613 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_612 : BitVec 32 := 1#32
  let v517 : BitVec 32 := Scalar.muli v7 c1_i32_612
  let v518 : BitVec 32 := Scalar.addi c0_i32_613 v517
  v518.toNat
def k0_dev30 (d0 : Dev nD) : Nat :=
  let c0_i32_616 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_615 : BitVec 32 := 1#32
  let v519 : BitVec 32 := Scalar.muli v4 c1_i32_615
  let v520 : BitVec 32 := Scalar.addi c0_i32_616 v519
  v520.toNat
def k0_dev31 (d0 : Dev nD) : Nat :=
  let c0_i32_644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_643 : BitVec 32 := 1#32
  let v542 : BitVec 32 := Scalar.muli v4 c1_i32_643
  let v543 : BitVec 32 := Scalar.addi c0_i32_644 v542
  v543.toNat
def k0_dev32 (d0 : Dev nD) : Nat :=
  let c0_i32_656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_655 : BitVec 32 := 1#32
  let v552 : BitVec 32 := Scalar.muli v7 c1_i32_655
  let v553 : BitVec 32 := Scalar.addi c0_i32_656 v552
  v553.toNat
def k0_dev33 (d0 : Dev nD) : Nat :=
  let c0_i32_701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_700 : BitVec 32 := 1#32
  let v590 : BitVec 32 := Scalar.muli v7 c1_i32_700
  let v591 : BitVec 32 := Scalar.addi c0_i32_701 v590
  v591.toNat
def k0_dev34 (d0 : Dev nD) : Nat :=
  let c0_i32_704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_703 : BitVec 32 := 1#32
  let v592 : BitVec 32 := Scalar.muli v4 c1_i32_703
  let v593 : BitVec 32 := Scalar.addi c0_i32_704 v592
  v593.toNat
def k0_dev35 (d0 : Dev nD) : Nat :=
  let c0_i32_732 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_731 : BitVec 32 := 1#32
  let v615 : BitVec 32 := Scalar.muli v4 c1_i32_731
  let v616 : BitVec 32 := Scalar.addi c0_i32_732 v615
  v616.toNat
def k0_dev36 (d0 : Dev nD) : Nat :=
  let c0_i32_744 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_743 : BitVec 32 := 1#32
  let v625 : BitVec 32 := Scalar.muli v7 c1_i32_743
  let v626 : BitVec 32 := Scalar.addi c0_i32_744 v625
  v626.toNat
def k0_dev37 (d0 : Dev nD) : Nat :=
  let c0_i32_789 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_788 : BitVec 32 := 1#32
  let v663 : BitVec 32 := Scalar.muli v7 c1_i32_788
  let v664 : BitVec 32 := Scalar.addi c0_i32_789 v663
  v664.toNat
def k0_dev38 (d0 : Dev nD) : Nat :=
  let c0_i32_792 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_791 : BitVec 32 := 1#32
  let v665 : BitVec 32 := Scalar.muli v4 c1_i32_791
  let v666 : BitVec 32 := Scalar.addi c0_i32_792 v665
  v666.toNat
def k0_dev39 (d0 : Dev nD) : Nat :=
  let c0_i32_820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_819 : BitVec 32 := 1#32
  let v688 : BitVec 32 := Scalar.muli v4 c1_i32_819
  let v689 : BitVec 32 := Scalar.addi c0_i32_820 v688
  v689.toNat
def k0_dev40 (d0 : Dev nD) : Nat :=
  let c0_i32_832 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_831 : BitVec 32 := 1#32
  let v698 : BitVec 32 := Scalar.muli v7 c1_i32_831
  let v699 : BitVec 32 := Scalar.addi c0_i32_832 v698
  v699.toNat
def k0_dev41 (d0 : Dev nD) : Nat :=
  let c0_i32_877 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_876 : BitVec 32 := 1#32
  let v736 : BitVec 32 := Scalar.muli v7 c1_i32_876
  let v737 : BitVec 32 := Scalar.addi c0_i32_877 v736
  v737.toNat
def k0_dev42 (d0 : Dev nD) : Nat :=
  let c0_i32_880 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_879 : BitVec 32 := 1#32
  let v738 : BitVec 32 := Scalar.muli v4 c1_i32_879
  let v739 : BitVec 32 := Scalar.addi c0_i32_880 v738
  v739.toNat
def k0_dev43 (d0 : Dev nD) : Nat :=
  let c0_i32_908 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_907 : BitVec 32 := 1#32
  let v761 : BitVec 32 := Scalar.muli v4 c1_i32_907
  let v762 : BitVec 32 := Scalar.addi c0_i32_908 v761
  v762.toNat
def k0_dev44 (d0 : Dev nD) : Nat :=
  let c0_i32_920 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_919 : BitVec 32 := 1#32
  let v771 : BitVec 32 := Scalar.muli v7 c1_i32_919
  let v772 : BitVec 32 := Scalar.addi c0_i32_920 v771
  v772.toNat
def k0_dev45 (d0 : Dev nD) : Nat :=
  let c0_i32_965 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_964 : BitVec 32 := 1#32
  let v809 : BitVec 32 := Scalar.muli v7 c1_i32_964
  let v810 : BitVec 32 := Scalar.addi c0_i32_965 v809
  v810.toNat
def k0_dev46 (d0 : Dev nD) : Nat :=
  let c0_i32_968 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_967 : BitVec 32 := 1#32
  let v811 : BitVec 32 := Scalar.muli v4 c1_i32_967
  let v812 : BitVec 32 := Scalar.addi c0_i32_968 v811
  v812.toNat
def k0_dev47 (d0 : Dev nD) : Nat :=
  let c0_i32_996 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_995 : BitVec 32 := 1#32
  let v834 : BitVec 32 := Scalar.muli v4 c1_i32_995
  let v835 : BitVec 32 := Scalar.addi c0_i32_996 v834
  v835.toNat
def k0_dev48 (d0 : Dev nD) : Nat :=
  let c0_i32_1008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1007 : BitVec 32 := 1#32
  let v844 : BitVec 32 := Scalar.muli v7 c1_i32_1007
  let v845 : BitVec 32 := Scalar.addi c0_i32_1008 v844
  v845.toNat
def k0_dev49 (d0 : Dev nD) : Nat :=
  let c0_i32_1053 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1052 : BitVec 32 := 1#32
  let v882 : BitVec 32 := Scalar.muli v7 c1_i32_1052
  let v883 : BitVec 32 := Scalar.addi c0_i32_1053 v882
  v883.toNat
def k0_dev50 (d0 : Dev nD) : Nat :=
  let c0_i32_1056 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1055 : BitVec 32 := 1#32
  let v884 : BitVec 32 := Scalar.muli v4 c1_i32_1055
  let v885 : BitVec 32 := Scalar.addi c0_i32_1056 v884
  v885.toNat
def k0_dev51 (d0 : Dev nD) : Nat :=
  let c0_i32_1084 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1083 : BitVec 32 := 1#32
  let v907 : BitVec 32 := Scalar.muli v4 c1_i32_1083
  let v908 : BitVec 32 := Scalar.addi c0_i32_1084 v907
  v908.toNat
def k0_dev52 (d0 : Dev nD) : Nat :=
  let c0_i32_1096 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1095 : BitVec 32 := 1#32
  let v917 : BitVec 32 := Scalar.muli v7 c1_i32_1095
  let v918 : BitVec 32 := Scalar.addi c0_i32_1096 v917
  v918.toNat
def k0_dev53 (d0 : Dev nD) : Nat :=
  let c0_i32_1141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1140 : BitVec 32 := 1#32
  let v955 : BitVec 32 := Scalar.muli v7 c1_i32_1140
  let v956 : BitVec 32 := Scalar.addi c0_i32_1141 v955
  v956.toNat
def k0_dev54 (d0 : Dev nD) : Nat :=
  let c0_i32_1144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1143 : BitVec 32 := 1#32
  let v957 : BitVec 32 := Scalar.muli v4 c1_i32_1143
  let v958 : BitVec 32 := Scalar.addi c0_i32_1144 v957
  v958.toNat
def k0_dev55 (d0 : Dev nD) : Nat :=
  let c0_i32_1172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1171 : BitVec 32 := 1#32
  let v980 : BitVec 32 := Scalar.muli v4 c1_i32_1171
  let v981 : BitVec 32 := Scalar.addi c0_i32_1172 v980
  v981.toNat
def k0_dev56 (d0 : Dev nD) : Nat :=
  let c0_i32_1184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1183 : BitVec 32 := 1#32
  let v990 : BitVec 32 := Scalar.muli v7 c1_i32_1183
  let v991 : BitVec 32 := Scalar.addi c0_i32_1184 v990
  v991.toNat
def k0_dev57 (d0 : Dev nD) : Nat :=
  let c0_i32_1229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1228 : BitVec 32 := 1#32
  let v1028 : BitVec 32 := Scalar.muli v7 c1_i32_1228
  let v1029 : BitVec 32 := Scalar.addi c0_i32_1229 v1028
  v1029.toNat
def k0_dev58 (d0 : Dev nD) : Nat :=
  let c0_i32_1232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1231 : BitVec 32 := 1#32
  let v1030 : BitVec 32 := Scalar.muli v4 c1_i32_1231
  let v1031 : BitVec 32 := Scalar.addi c0_i32_1232 v1030
  v1031.toNat
def k0_dev59 (d0 : Dev nD) : Nat :=
  let c0_i32_1260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1259 : BitVec 32 := 1#32
  let v1053 : BitVec 32 := Scalar.muli v4 c1_i32_1259
  let v1054 : BitVec 32 := Scalar.addi c0_i32_1260 v1053
  v1054.toNat
def k0_dev60 (d0 : Dev nD) : Nat :=
  let c0_i32_1272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1271 : BitVec 32 := 1#32
  let v1063 : BitVec 32 := Scalar.muli v7 c1_i32_1271
  let v1064 : BitVec 32 := Scalar.addi c0_i32_1272 v1063
  v1064.toNat
def k0_dev61 (d0 : Dev nD) : Nat :=
  let c0_i32_1317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2 : BitVec 32 := 32#32
  let v5 : BitVec 32 := Scalar.addi v2 c32_i32_2
  let c1_i32_3 : BitVec 32 := 1#32
  let v6 : BitVec 32 := Scalar.subi v5 c1_i32_3
  let c32_i32_4 : BitVec 32 := 32#32
  let v7 : BitVec 32 := Scalar.remsi v6 c32_i32_4
  let c1_i32_1316 : BitVec 32 := 1#32
  let v1101 : BitVec 32 := Scalar.muli v7 c1_i32_1316
  let v1102 : BitVec 32 := Scalar.addi c0_i32_1317 v1101
  v1102.toNat
def k0_dev62 (d0 : Dev nD) : Nat :=
  let c0_i32_1345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1344 : BitVec 32 := 1#32
  let v1124 : BitVec 32 := Scalar.muli v4 c1_i32_1344
  let v1125 : BitVec 32 := Scalar.addi c0_i32_1345 v1124
  v1125.toNat
abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Prog.lean ====
/-
  The kernel's body in hops.

  The body runs two rings at once: blocks travel to the next device through one buffer (sixteen hops) and to the
  previous device through the other (fifteen hops). Here a ring is named by a `Bool` — `true` the ring to the next
  device, `false` the ring to the previous one — and the steps of a hop are stated once, for either ring and any hop
  number. `body_eq` says that the printed body is the prologue, the first hop, the thirteen hops alike, and the last two.
-/
module

public import proofs.«01_k».proof.Proof.Gen.KernelIdeal
public import proofs.«01_k».proof.Proof.Gen.KernelIdeal.Skeleton
public import Idealize.ShloMosaic.Lib.Pipeline.Regions

@[expose] public section

noncomputable section

namespace Cert.Ring

open Cert.KernelIdeal Cert.KernelIdeal.Gen
open Idealize.ShloMosaic Idealize.ShloMosaic.TcCoe
open Idealize.SL Idealize.SL.Sem

variable {F : FTy → Type} [FloatOps F]

/-- The programs of a kernel body. -/
abbrev KProg (F : FTy → Type) [FloatOps F] (α : Type) := Prog (TpuEff nD τ sig (Elt F) Λ₀ .tc) α

/-! ## The buffers and semaphores of a ring -/

/-- The windows' staging buffers: `x`'s block, `w`'s block, the result. -/
abbrev xM : Memref sig .tc .vmem S128x4096 .f32 := Memref.whole cc0_stg0_0
abbrev wM : Memref sig .tc .vmem S4096x64 .f32 := Memref.whole cc0_stg1_0
abbrev oM : Memref sig .tc .vmem S4096x64 .f32 := Memref.whole cc0_stg2_0

/-- A ring's buffer of two slots. -/
def bufM : Bool → Memref sig .tc .vmem S2x128x4096 .f32
  | true => Memref.whole cc0_scratch0
  | false => Memref.whole cc0_scratch1
/-- A ring's send semaphores, one per slot sent from. -/
def sendA : Bool → DmaSems sig S2
  | true => cc0_scratch2
  | false => cc0_scratch4
/-- A ring's receive semaphores, one per slot received into. -/
def recvA : Bool → DmaSems sig S2
  | true => cc0_scratch3
  | false => cc0_scratch5
/-- A ring's credit semaphore. -/
def credA : Bool → Sems sig S_
  | true => cc0_scratch6
  | false => cc0_scratch7

/-- Hop `h` sends from slot `h % 2` and receives into slot `(h + 1) % 2`. -/
def slot (h : ℕ) : Fin 2 := ⟨h % 2, Nat.mod_lt _ (by decide)⟩

theorem slot_inb : ∀ (s : Fin 2) (a : Fin 3), (![s.val, 0, 0] : Fin 3 → ℕ) a + S1x128x4096.size a ≤ S2x128x4096.size a := by decide
theorem sem_inb : ∀ (s : Fin 2) (a : Fin 1), (![s.val] : Fin 1 → ℕ) a + S1.size a ≤ S2.size a := by decide

/-- Slot `s` of a ring's buffer, as a rectangle and as the memref the copies name. -/
abbrev slotR (s : Fin 2) : Rect S2x128x4096 := Rect.unit (s := S2x128x4096) ![s.val, 0, 0] S1x128x4096.size (slot_inb s)
def slotM (b : Bool) (s : Fin 2) : Memref sig .tc .vmem S128x4096 .f32 :=
  ((bufM b).slice (slotR s) (fun _ => rfl)).squeeze S128x4096 squeezes_S1x128x4096_S128x4096
def sendS (b : Bool) (s : Fin 2) : DmaSem sig := (((sendA b).slice (Rect.unit (s := S2) ![s.val] S1.size (sem_inb s))).squeeze S_ squeezes_S1_S_).sem
def recvS (b : Bool) (s : Fin 2) : DmaSem sig := (((recvA b).slice (Rect.unit (s := S2) ![s.val] S1.size (sem_inb s))).squeeze S_ squeezes_S1_S_).sem
def credS (b : Bool) : Sem sig := (credA b).sem
/-- The runtime's barrier semaphore. -/
def barS : Sem sig := (SemArray.scalar (sig.barrier 0 rfl) : Sems sig S_).sem

theorem slotM_notSc (b : Bool) (s : Fin 2) : (slotM b s).view.ref.isScScratch = false := by cases b <;> rfl

/-- The device a ring's copies go to, and the one they come from, as the kernel computes them. -/
def fwdD : Bool → Dev nD → Dev nD
  | true => fun c => ⟨k0_dev2 c, k0_dev2_lt c⟩
  | false => fun c => ⟨k0_dev1 c, k0_dev1_lt c⟩
/-- The rows of the result that hop `h`'s block is multiplied into, as the kernel computes them. -/
def offD : Bool → ℕ → Dev nD → Fin 2 → ℕ
  | true => fun h c => k0_off2 c (BitVec.ofNat 32 (1 + h))
  | false => fun h c => k0_off3 c (BitVec.ofNat 32 (1 + h))
/-- How many hops a ring makes. -/
def hops : Bool → ℕ
  | true => 16
  | false => 15
theorem offD_inb : ∀ (b : Bool) (h : ℕ) (c : Dev nD), h < hops b → ∀ a, offD b h c a + S128x64.size a ≤ S4096x64.size a
  | true, h, c, hh => k0_off2_inb c ⟨h, hh⟩
  | false, h, c, hh => k0_off3_inb c ⟨h, hh⟩

/-! ## The steps of a hop -/

section Steps
variable (b : Bool) (h : ℕ) (c : Dev nD)

/-- Wait for the credit of the hop before. -/
def creditP : KProg F PUnit := semWaitWord (credS b) 1#32
/-- Start the copy of this hop's block. -/
def sendP : KProg F PUnit :=
  Prog.lift (.enqueueDma (slotM b (slot h)) (.remote (Dev.tc (fwdD b c)) (slotM b (slot (h + 1))) (.dma (sendS b (slot h))) (slotM_notSc b _))
    (.dma (recvS b (slot (h + 1)))) ((View.wordExact_bits rfl).reshape _ _) ((View.wordExact_bits rfl).reshape _ _) ⟨⟨rfl, Or.inl rfl⟩, trivial⟩)
/-- Wait until the block sent has been read out. -/
def sentP : KProg F PUnit :=
  Prog.lift (.waitDma2 (sendS b (slot h)) (slotM b (slot (h + 1))) (slotM b (slot h)) ((View.wordExact_bits rfl).reshape _ _) ((View.wordExact_bits rfl).reshape _ _))
/-- Wait until this hop's block has landed. -/
def landP : KProg F PUnit :=
  Prog.lift (.waitDma2 (recvS b (slot (h + 1))) (slotM b (slot h)) (slotM b (slot (h + 1))) ((View.wordExact_bits rfl).reshape _ _) ((View.wordExact_bits rfl).reshape _ _))
/-- Give the device the ring comes from the credit for its next hop. -/
def grantP : KProg F PUnit := semSignalWord (fwdD (!b) c) (credS b) 1#32
/-- Multiply the block that landed by `w` into its rows of the result. -/
def dotP (hin : ∀ a, offD b h c a + S128x64.size a ≤ S4096x64.size a) : KProg F PUnit := do
  let v ← Prog.lift (.load (bufM b) (slotR (slot (h + 1))).toLoadRect (View.loadsAt_vmem h_S1x128x4096))
  let w ← Prog.lift (.load wM (Rect.unit (s := S4096x64) ![0, 0] S4096x64.size inb_S4096x64_S4096x64_0_0).toLoadRect (View.loadsAt_vmem h_S4096x64))
  let _ ← Prog.lift (.load oM (Rect.unit (s := S4096x64) (offD b h c) S128x64.size hin).toLoadRect (View.loadsAt_vmem h_S128x64))
  Prog.lift (.store oM (Rect.unit (s := S4096x64) (offD b h c) S128x64.size hin) (k0_pay1 v w) Finset.univ (View.stores_vmem_bits_univ h_S128x64 rfl) (.inl rfl))

end Steps

/-! ## The hops -/

/-- What every hop of the two rings does once the copies are started. -/
def restP (h : ℕ) (h1 : h < 14) (c : Dev nD) : KProg F PUnit := do
  sentP true h
  landP true h
  sentP false h
  landP false h
  grantP true c
  grantP false c
  dotP true h c (offD_inb true h c (Nat.lt_trans h1 (by decide)))
  dotP false h c (offD_inb false h c (Nat.lt_trans h1 (by decide)))
/-- The first hop: no credit to wait for. -/
def firstP (c : Dev nD) : KProg F PUnit := do
  sendP true 0 c
  sendP false 0 c
  restP 0 (by decide) c
/-- Hop `h`, both rings. -/
def hopP (h : ℕ) (h1 : h < 14) (c : Dev nD) : KProg F PUnit := do
  creditP true
  sendP true h c
  creditP false
  sendP false h c
  restP h h1 c
/-- Hops `1, …, n`. -/
def hopsP : (n : ℕ) → n < 14 → Dev nD → KProg F PUnit
  | 0, _, _ => pure ⟨⟩
  | n + 1, hn, c => do
    hopsP n (Nat.lt_of_succ_lt hn) c
    hopP (n + 1) hn c
/-- The last hop of both rings: the ring to the previous device ends, so only the other's credit is given. -/
def lastP (c : Dev nD) : KProg F PUnit := do
  creditP true
  sendP true 14 c
  creditP false
  sendP false 14 c
  sentP true 14
  landP true 14
  sentP false 14
  landP false 14
  grantP true c
  dotP true 14 c (offD_inb true 14 c (by decide))
  dotP false 14 c (offD_inb false 14 c (by decide))
/-- The last hop of the ring to the next device. -/
def finalP (c : Dev nD) : KProg F PUnit := do
  creditP true
  sendP true 15 c
  sentP true 15
  landP true 15
  dotP true 15 c (offD_inb true 15 c (by decide))

/-- The device's block of `x` into slot 0 of a ring's buffer. -/
def fillP (b : Bool) : KProg F PUnit := do
  let v ← Prog.lift (.load xM (Rect.unit (s := S128x4096) ![0, 0] S128x4096.size inb_S128x4096_S128x4096_0_0).toLoadRect (View.loadsAt_vmem h_S128x4096))
  let _ ← Prog.lift (.load (bufM b) (slotR (slot 0)).toLoadRect (View.loadsAt_vmem h_S1x128x4096))
  Prog.lift (.store (bufM b) (slotR (slot 0)) (k0_pay2 v) Finset.univ (View.stores_vmem_bits_univ h_S1x128x4096 rfl) (.inl rfl))
/-- The product of the device's own block. -/
def ownP (c : Dev nD) : KProg F PUnit := do
  let v ← Prog.lift (.load xM (Rect.unit (s := S128x4096) ![0, 0] S128x4096.size inb_S128x4096_S128x4096_0_0).toLoadRect (View.loadsAt_vmem h_S128x4096))
  let w ← Prog.lift (.load wM (Rect.unit (s := S4096x64) ![0, 0] S4096x64.size inb_S4096x64_S4096x64_0_0).toLoadRect (View.loadsAt_vmem h_S4096x64))
  let _ ← Prog.lift (.load oM (Rect.unit (s := S4096x64) (k0_off1 c) S128x64.size (k0_off1_inb c)).toLoadRect (View.loadsAt_vmem h_S128x64))
  Prog.lift (.store oM (Rect.unit (s := S4096x64) (k0_off1 c) S128x64.size (k0_off1_inb c)) (k0_pay5 (k0_pay4 v) w) Finset.univ (View.stores_vmem_bits_univ h_S128x64 rfl) (.inl rfl))

/-- Both neighbours told, both heard from. -/
def meetP (c : Dev nD) : KProg F PUnit := do
  semSignalWord (fwdD false c) barS 1#32
  semSignalWord (fwdD true c) barS 1#32
  semWaitWord barS 2#32

/-- The body in hops. -/
def bodyP : KProg F PUnit := do
  let c ← Prog.lift .deviceId
  meetP c
  fillP true
  fillP false
  ownP c
  firstP c
  hopsP 13 (by decide) c
  lastP c
  finalP c

set_option maxRecDepth 65536 in
/-- The printed body is the body in hops. -/
theorem body_eq :
    cc0_body (F := F) xM (Memref.isWhole_whole _) wM (Memref.isWhole_whole _) oM (Memref.isWhole_whole _) (Memref.whole cc0_scratch0) (Memref.isWhole_whole _)
      (Memref.whole cc0_scratch1) (Memref.isWhole_whole _) cc0_scratch2 cc0_scratch3 cc0_scratch4 cc0_scratch5 cc0_scratch6 cc0_scratch7 = bodyP := by
  chain_rfl

end Cert.Ring

end
-- ==== Proof.Common.lean ====
/-
  The rings' protocol.

  Each device's cells are its barrier cell and, for each ring, a send cell and a receive cell per slot and a credit cell.
  Hop `h` of ring `b` sends from slot `h % 2` and lands in slot `(h + 1) % 2` of the device `step b c`; so a send or
  receive cell's round `r` belongs to the `r`-th of the hops that use its slot. A hop after the first may start once the
  device it sends to has given a credit, and the credit brings the slot it lands in. The barrier brings the slots the
  first hops land in.
-/
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the rings' (duties `Bool`), cell indices the hops -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ)

/-! ## The rings -/

/-- The device one step along a ring. -/
def step : Bool → Dev nD → Dev nD
  | true => fun c => ⟨(c.val + 1) % 32, Nat.mod_lt _ (by decide)⟩
  | false => fun c => ⟨(c.val + 31) % 32, Nat.mod_lt _ (by decide)⟩

theorem step_step (b : Bool) (c : Dev nD) : step (!b) (step b c) = c := by revert b c; decide
theorem step_step' (b : Bool) (c : Dev nD) : step b (step (!b) c) = c := by revert b c; decide

def ring (b : Bool) : Dev nD ≃ Dev nD := ⟨step b, step (!b), step_step b, step_step' b⟩

theorem fwdD_eq : ∀ (b : Bool) (c : Dev nD), fwdD b c = step b c
  | true, c => Fin.ext (k0_dev2_eq c)
  | false, c => Fin.ext (k0_dev1_eq c)

/-- The device whose block of `x` reaches `c` after `k` hops of a ring. -/
def src (b : Bool) (k : ℕ) (c : Dev nD) : Dev nD := (step (!b))^[k] c

theorem src_step (b : Bool) (k : ℕ) (c : Dev nD) : src b (k + 1) (step b c) = src b k c := by
  unfold src; rw [Function.iterate_succ_apply, step_step]
theorem src_true_val (k : ℕ) (c : Dev nD) : (src true k c).val = (c.val + 31 * k) % 32 := by
  induction k with
  | zero => exact (Nat.mod_eq_of_lt c.isLt).symm
  | succ k ih => unfold src at ih ⊢; rw [Function.iterate_succ_apply']; show ((_ : ℕ) + 31) % 32 = _; rw [ih]; omega
theorem src_false_val (k : ℕ) (c : Dev nD) : (src false k c).val = (c.val + k) % 32 := by
  induction k with
  | zero => exact (Nat.mod_eq_of_lt c.isLt).symm
  | succ k ih => unfold src at ih ⊢; rw [Function.iterate_succ_apply']; show ((_ : ℕ) + 1) % 32 = _; rw [ih]; omega

/-- The rows hop `h`'s block goes to are its device's. -/
theorem offD_eq : ∀ (b : Bool) (h : ℕ) (c : Dev nD), h < hops b → offD b h c = ![128 * (src b (h + 1) c).val, 0]
  | true, h, c, hh => (k0_off2_eq c ⟨h, hh⟩).trans (by rw [src_true_val]; congr 2; show (c.val + 31 - h) % 32 = _; have : h < 16 := hh; omega)
  | false, h, c, hh => (k0_off3_eq c ⟨h, hh⟩).trans (by rw [src_false_val]; congr 2)

theorem slot_add_two (h : ℕ) : slot (h + 2) = slot h := Fin.ext (by simp only [slot]; omega)

/-! ## The cells -/

/-- A ring's cells on a device: a send and a receive cell per slot, a credit cell. -/
abbrev Own : Type := Bool × (Fin 2 ⊕ Fin 2 ⊕ Unit)
/-- A device's cells: its barrier cell and the rings'. -/
abbrev Kind : Type := Option Own

def osem : Own → SemLoc sig
  | (b, .inl s) => .dma (sendS b s)
  | (b, .inr (.inl s)) => .dma (recvS b s)
  | (b, .inr (.inr _)) => .reg (credS b)
def csem : Kind → SemLoc sig
  | none => .reg barS
  | some k => osem k

def kinds : List Kind := none :: ([true, false].flatMap fun b => [.inl 0, .inl 1, .inr (.inl 0), .inr (.inl 1), .inr (.inr ())].map fun k => some (b, k))
/-- Which of the protocol's cells a semaphore is, if any. -/
def kindOf (sm : SemLoc sig) : Option Kind := kinds.find? fun k => decide (csem k = sm)

theorem kindOf_csem : ∀ k : Kind, kindOf (csem k) = some k := by decide
theorem csem_inj : Function.Injective csem := fun k k' h => Option.some.inj ((kindOf_csem k).symm.trans ((congrArg kindOf h).trans (kindOf_csem k')))

abbrev barCell (c : Dev nD) : GSem nD τ sig := ((c : Thread nD τ), .reg barS)
abbrev sendCell (b : Bool) (s : Fin 2) (c : Dev nD) : GSem nD τ sig := ((c : Thread nD τ), .dma (sendS b s))
abbrev recvCell (b : Bool) (s : Fin 2) (c : Dev nD) : GSem nD τ sig := ((c : Thread nD τ), .dma (recvS b s))
abbrev credCell (b : Bool) (c : Dev nD) : GSem nD τ sig := ((c : Thread nD τ), .reg (credS b))
abbrev kcell (ck : Dev nD × Kind) : GSem nD τ sig := ((ck.1 : Thread nD τ), csem ck.2)

theorem kind_bar : kindOf (.reg barS) = some none := kindOf_csem none
theorem kind_send (b : Bool) (s : Fin 2) : kindOf (.dma (sendS b s)) = some (some (b, .inl s)) := kindOf_csem (some (b, .inl s))
theorem kind_recv (b : Bool) (s : Fin 2) : kindOf (.dma (recvS b s)) = some (some (b, .inr (.inl s))) := kindOf_csem (some (b, .inr (.inl s)))
theorem kind_cred (b : Bool) : kindOf (.reg (credS b)) = some (some (b, .inr (.inr ()))) := kindOf_csem (some (b, .inr (.inr ())))

/-- The credit one block brings a DMA cell. -/
def N : ℕ := (slotM true 0).view.dmaCredit
theorem N_pos : 0 < N := View.dmaCredit_pos _ (by decide)
theorem credit_slot (b : Bool) (s : Fin 2) : (slotM b s).view.dmaCredit = N := by cases b <;> rfl

/-! ## What the cells hand over -/

/-- Device `c`'s block of `x`, as the pipeline stages it. -/
def xblk (c : Dev nD) : (cc0_stg0_0 : Ref sig .tc).ty.Contents (Elt F) :=
  (win0_0.blk (0 : Fin 1)).view.read (Elt F) (m ((c : Thread nD τ).loc main_arg0))

/-- A slot of device `c` holding `X`. -/
def slotAt (b : Bool) (s : Fin 2) (c : Dev nD) (X : Vec F S128x4096 .f32) : sProp 𝕄 := owns (c : Thread nD τ) (slotM b s) fullShare X
/-- A slot of device `c`, whatever it holds. -/
def slotAny (b : Bool) (s : Fin 2) (c : Dev nD) : sProp 𝕄 := iprop(∃ X, slotAt b s c X)
/-- Device `c` is ready for hop `h` to land: the slot, and that its receive cell is at that hop's round. -/
def ready (b : Bool) (h : ℕ) (c : Dev nD) : sProp 𝕄 := iprop(slotAny b (slot (h + 1)) c ∗ reached ER (recvCell b (slot (h + 1)) c) (h / 2))
/-- Hop `h` has landed at device `c`: the block, and that the sender's credit cell is at the round of the credit to give. -/
def landed (b : Bool) (h : ℕ) (c : Dev nD) : sProp 𝕄 :=
  iprop(slotAt b (slot (h + 1)) c (xblk m (src b (h + 1) c)) ∗ reached ER (credCell b (step (!b) c)) h)

omit [FloatOps F] in
instance slotAt_storable (b s c X) : BI.Storable (upEmb : UEmb _ 𝕄) (slotAt (F := F) b s c X) := by unfold slotAt; infer_instance
omit [FloatOps F] in
instance slotAny_storable (b s c) : BI.Storable (upEmb : UEmb _ 𝕄) (slotAny (F := F) b s c) := by unfold slotAny; infer_instance
omit [FloatOps F] in
instance ready_storable (b h c) : BI.Storable (upEmb : UEmb _ 𝕄) (ready (F := F) b h c) := by unfold ready; infer_instance
omit [FloatOps F] in
instance landed_storable (b h c) : BI.Storable (upEmb : UEmb _ 𝕄) (landed m b h c) := by unfold landed; infer_instance

/-- The hop of a receive cell's round: slot 1 receives the even hops, slot 0 the odd ones. -/
def recvHop (s : Fin 2) (r : ℕ) : ℕ := 2 * r + (1 - s.val)
/-- The hop of a send cell's round. -/
def sendHop (s : Fin 2) (r : ℕ) : ℕ := 2 * r + s.val

theorem recvHop_slot (h : ℕ) : recvHop (slot (h + 1)) (h / 2) = h := by simp only [recvHop, slot]; omega
theorem sendHop_slot (h : ℕ) : sendHop (slot h) (h / 2) = h := by simp only [sendHop, slot]; omega

/-- The schedule: the barrier cell's one round has a duty for each ring, paid by the device a step along it; the other
    cells' rounds one duty each, as many rounds as hops use the cell. -/
def ringRd : Rounds.Schedule (GSem nD τ sig) Bool 𝕄 where
  duties g r := match kindOf g.2 with
    | some none => if r = 0 then Finset.univ else ∅
    | some (some (b, .inl s)) => if sendHop s r < hops b then {false} else ∅
    | some (some (b, .inr (.inl s))) => if recvHop s r < hops b then {false} else ∅
    | some (some (b, .inr (.inr _))) => if r + 1 < hops b then {false} else ∅
    | none => ∅
  unitless _ := False
  amount g _ _ := match kindOf g.2 with
    | some none => 1
    | some (some (_, .inr (.inr _))) => 1
    | _ => N
  payload g r d := match kindOf g.2 with
    | some none => ready d 0 (step d g.1.1)
    | some (some (b, .inl s)) => slotAny b s g.1.1
    | some (some (b, .inr (.inl s))) => landed m b (recvHop s r) g.1.1
    | some (some (b, .inr (.inr _))) => ready b (r + 1) (step b g.1.1)
    | none => iprop(emp)
  amount_pos g _ _ _ := by split <;> first | exact Nat.one_pos | exact N_pos

instance ringRd_payload_storable (g : GSem nD τ sig) (r : ℕ) (d : Bool) :
    BI.Storable (upEmb : UEmb _ 𝕄) ((ringRd (F := F) m).payload g r d) := by
  unfold ringRd; dsimp only; split <;> infer_instance

section Sched
variable (b : Bool) (s : Fin 2) (h r : ℕ) (c : Dev nD) (d : Bool)

omit [FloatOps F] in
theorem duties_bar : (ringRd (F := F) m).duties (barCell c) 0 = Finset.univ := by dsimp only [ringRd]; rw [kind_bar]; rfl
omit [FloatOps F] in
theorem duties_send (hh : h < hops b) : (ringRd (F := F) m).duties (sendCell b (slot h) c) (h / 2) = {false} := by
  dsimp only [ringRd]; rw [kind_send]; dsimp only; rw [sendHop_slot, if_pos hh]
omit [FloatOps F] in
theorem duties_recv (hh : h < hops b) : (ringRd (F := F) m).duties (recvCell b (slot (h + 1)) c) (h / 2) = {false} := by
  dsimp only [ringRd]; rw [kind_recv]; dsimp only; rw [recvHop_slot, if_pos hh]
omit [FloatOps F] in
theorem duties_cred (hh : h + 1 < hops b) : (ringRd (F := F) m).duties (credCell b c) h = {false} := by
  dsimp only [ringRd]; rw [kind_cred]; dsimp only; rw [if_pos hh]

omit [FloatOps F] in
theorem duties_bar_later (hr : 1 ≤ r) : (ringRd (F := F) m).duties (barCell c) r = ∅ := by
  dsimp only [ringRd]; rw [kind_bar]; dsimp only; rw [if_neg (by omega)]
omit [FloatOps F] in
theorem duties_send_later (hh : hops b ≤ h) (hr : h / 2 ≤ r) : (ringRd (F := F) m).duties (sendCell b (slot h) c) r = ∅ := by
  dsimp only [ringRd]; rw [kind_send]; dsimp only; rw [if_neg (by simp only [sendHop, slot]; omega)]
omit [FloatOps F] in
theorem duties_recv_later (hh : hops b ≤ h) (hr : h / 2 ≤ r) : (ringRd (F := F) m).duties (recvCell b (slot (h + 1)) c) r = ∅ := by
  dsimp only [ringRd]; rw [kind_recv]; dsimp only; rw [if_neg (by simp only [recvHop, slot]; omega)]
omit [FloatOps F] in
theorem duties_cred_later (hr : hops b ≤ r + 1) : (ringRd (F := F) m).duties (credCell b c) r = ∅ := by
  dsimp only [ringRd]; rw [kind_cred]; dsimp only; rw [if_neg (by omega)]

omit [FloatOps F] in
theorem amount_bar : (ringRd (F := F) m).amount (barCell c) r d = 1 := by dsimp only [ringRd]; rw [kind_bar]
omit [FloatOps F] in
theorem amount_send : (ringRd (F := F) m).amount (sendCell b s c) r d = N := by dsimp only [ringRd]; rw [kind_send]
omit [FloatOps F] in
theorem amount_recv : (ringRd (F := F) m).amount (recvCell b s c) r d = N := by dsimp only [ringRd]; rw [kind_recv]
omit [FloatOps F] in
theorem amount_cred : (ringRd (F := F) m).amount (credCell b c) r d = 1 := by dsimp only [ringRd]; rw [kind_cred]

omit [FloatOps F] in
theorem expect_bar : (ringRd (F := F) m).expect (barCell c) 0 = 2 := by
  unfold Schedule.expect Schedule.amountOf
  rw [duties_bar, Finset.sum_congr rfl fun d _ => amount_bar m 0 c d, Finset.sum_const, Finset.card_univ, Fintype.card_bool, smul_eq_mul]
omit [FloatOps F] in
/-- A round of one duty expects that duty's amount and hands over its payload. -/
theorem expect_one {g : GSem nD τ sig} {r n : ℕ} (h1 : (ringRd (F := F) m).duties g r = {false}) (h2 : (ringRd (F := F) m).amount g r false = n) :
    (ringRd (F := F) m).expect g r = n := by
  unfold Schedule.expect Schedule.amountOf; rw [h1, Finset.sum_singleton, h2]
omit [FloatOps F] in
theorem rest_one {g : GSem nD τ sig} {r : ℕ} {P : sProp 𝕄} (h1 : (ringRd (F := F) m).duties g r = {false}) (h2 : (ringRd (F := F) m).payload g r false = P) :
    bigSep ((ringRd (F := F) m).duties g r \ ∅) (fun d => (ringRd (F := F) m).payload g r d) = P := by
  rw [Finset.sdiff_empty, h1, bigSep_singleton, h2]

omit [FloatOps F] in
theorem payload_bar : (ringRd (F := F) m).payload (barCell c) 0 d = ready d 0 (step d c) := by dsimp only [ringRd]; rw [kind_bar]
omit [FloatOps F] in
theorem payload_send : (ringRd (F := F) m).payload (sendCell b s c) r d = slotAny b s c := by dsimp only [ringRd]; rw [kind_send]
omit [FloatOps F] in
theorem payload_recv : (ringRd (F := F) m).payload (recvCell b (slot (h + 1)) c) (h / 2) d = landed m b h c := by
  dsimp only [ringRd]; rw [kind_recv]; dsimp only; rw [recvHop_slot]
omit [FloatOps F] in
theorem payload_cred : (ringRd (F := F) m).payload (credCell b c) h d = ready b (h + 1) (step b c) := by dsimp only [ringRd]; rw [kind_cred]

omit [FloatOps F] in
theorem rest_bar : bigSep ((ringRd (F := F) m).duties (barCell c) 0 \ ∅) (fun d => (ringRd (F := F) m).payload (barCell c) 0 d)
    = iprop(ready true 0 (step true c) ∗ ready false 0 (step false c)) := by
  rw [Finset.sdiff_empty, duties_bar, bigSep_univ_eq_bigSepL [true, false] (by decide) (by decide), bigSepL_cons_cons, bigSepL_singleton,
    payload_bar, payload_bar]
  rfl

end Sched

/-! ## What each device owes; the levels -/

abbrev Tal : Type := CellTallies nD τ sig ℕ

/-- The landings device `c` owes from hop `h` on, and the credits it owes from hop `h` on. -/
def oweR (b : Bool) (h : ℕ) (c : Dev nD) : Tal := ∑ k ∈ Finset.Ico h (hops b), tallyAt (recvCell b (slot (k + 1)) (step b c)) k N
def oweC (b : Bool) (h : ℕ) (c : Dev nD) : Tal := ∑ k ∈ Finset.Ico h (hops b - 1), tallyAt (credCell b (step (!b) c)) k 1
/-- What device `c` owes once ring `b` has made `R b` hops and given `C b` credits. -/
def owe (R C : Bool → ℕ) (c : Dev nD) : Tal := (oweR true (R true) c + oweR false (R false) c) + (oweC true (C true) c + oweC false (C false) c)
/-- What it owes at launch: that, and a unit to either neighbour's barrier cell. -/
def owe₀ (c : Dev nD) : Tal := (owe (fun _ => 0) (fun _ => 0) c + tallyAt (barCell (step true c)) 0 1) + tallyAt (barCell (step false c)) 0 1

/-- One more hop made by ring `b`. -/
def bump (b : Bool) (R : Bool → ℕ) : Bool → ℕ := fun b' => if b' = b then R b' + 1 else R b'
theorem bump_self (b : Bool) (R : Bool → ℕ) : bump b R b = R b + 1 := if_pos rfl
theorem bump_not (b : Bool) (R : Bool → ℕ) : bump b R (!b) = R (!b) := if_neg (by cases b <;> decide)

theorem Ico_cons {h n : ℕ} (hh : h < n) : Finset.Ico h n = insert h (Finset.Ico (h + 1) n) := by
  ext x; rw [Finset.mem_insert, Finset.mem_Ico, Finset.mem_Ico]; omega
theorem sum_cons {h n : ℕ} (hh : h < n) (T : ℕ → Tal) : ∑ k ∈ Finset.Ico h n, T k = ∑ k ∈ Finset.Ico (h + 1) n, T k + T h := by
  rw [Ico_cons hh, Finset.sum_insert (fun hm => by have := (Finset.mem_Ico.mp hm).1; omega), add_comm]

theorem oweR_succ (b : Bool) (h : ℕ) (c : Dev nD) (hh : h < hops b) :
    oweR b h c = oweR b (h + 1) c + tallyAt (recvCell b (slot (h + 1)) (step b c)) h N := by
  exact sum_cons hh _
theorem oweC_succ (b : Bool) (h : ℕ) (c : Dev nD) (hh : h + 1 < hops b) :
    oweC b h c = oweC b (h + 1) c + tallyAt (credCell b (step (!b) c)) h 1 := by
  exact sum_cons (by omega) _

theorem owe_send (b : Bool) (R C : Bool → ℕ) (c : Dev nD) (hh : R b < hops b) :
    owe R C c = owe (bump b R) C c + tallyAt (recvCell b (slot (R b + 1)) (step b c)) (R b) N := by
  cases b
  · unfold owe; rw [oweR_succ false (R false) c hh, bump_self, show bump false R true = R true from bump_not false R]; ac_rfl
  · unfold owe; rw [oweR_succ true (R true) c hh, bump_self, show bump true R false = R false from bump_not true R]; ac_rfl
theorem owe_grant (b : Bool) (R C : Bool → ℕ) (c : Dev nD) (hh : C b + 1 < hops b) :
    owe R C c = owe R (bump b C) c + tallyAt (credCell b (step (!b) c)) (C b) 1 := by
  cases b
  · unfold owe; rw [oweC_succ false (C false) c hh, bump_self, show bump false C true = C true from bump_not false C]; ac_rfl
  · unfold owe; rw [oweC_succ true (C true) c hh, bump_self, show bump true C false = C false from bump_not true C]; ac_rfl
theorem owe_done (R C : Bool → ℕ) (c : Dev nD) (hR : ∀ b, hops b ≤ R b) (hC : ∀ b, hops b ≤ C b + 1) : owe R C c = 0 := by
  unfold owe oweR oweC
  rw [Finset.Ico_eq_empty_of_le (hR true), Finset.Ico_eq_empty_of_le (hR false), Finset.Ico_eq_empty_of_le (by have := hC true; omega),
    Finset.Ico_eq_empty_of_le (by have := hC false; omega)]
  simp only [Finset.sum_empty, add_zero]

theorem add_pos {T T' : Tal} {g : GSem nD τ sig} {i : ℕ} (h : 0 < (T + T') g i) : 0 < T g i ∨ 0 < T' g i := by
  rw [Pi.add_apply, Finsupp.add_apply] at h; omega
theorem tally_pos {g g' : GSem nD τ sig} {i i' n : ℕ} (h : 0 < (tallyAt g i n : Tal) g' i') : g' = g ∧ i' = i := by
  rw [tallyAt_apply] at h; by_contra hc; rw [if_neg hc] at h; exact Nat.lt_irrefl 0 h
theorem sum_pos {s : Finset ℕ} {T : ℕ → Tal} {g : GSem nD τ sig} {i : ℕ} (h : 0 < (∑ k ∈ s, T k) g i) : ∃ k ∈ s, 0 < T k g i := by
  rw [Finset.sum_apply, Finsupp.finsetSum_apply] at h
  by_contra hc
  push Not at hc
  rw [Finset.sum_eq_zero fun k hk => Nat.le_zero.mp (hc k hk)] at h
  exact Nat.lt_irrefl 0 h

/-- What is owed is owed to a receive cell at a hop still to be made, or to a credit cell at a credit still to be given. -/
theorem owe_pos {R C : Bool → ℕ} {c : Dev nD} {g : GSem nD τ sig} {i : ℕ} (h : 0 < owe R C c g i) :
    ∃ b, (R b ≤ i ∧ i < hops b ∧ g = recvCell b (slot (i + 1)) (step b c)) ∨ (C b ≤ i ∧ i + 1 < hops b ∧ g = credCell b (step (!b) c)) := by
  have hr (b : Bool) (h : 0 < oweR b (R b) c g i) : R b ≤ i ∧ i < hops b ∧ g = recvCell b (slot (i + 1)) (step b c) := by
    obtain ⟨k, hk, hp⟩ := sum_pos h
    obtain ⟨h1, rfl⟩ := tally_pos hp
    exact ⟨(Finset.mem_Ico.mp hk).1, (Finset.mem_Ico.mp hk).2, h1⟩
  have hc (b : Bool) (h : 0 < oweC b (C b) c g i) : C b ≤ i ∧ i + 1 < hops b ∧ g = credCell b (step (!b) c) := by
    obtain ⟨k, hk, hp⟩ := sum_pos h
    obtain ⟨h1, rfl⟩ := tally_pos hp
    have := Finset.mem_Ico.mp hk
    exact ⟨this.1, by omega, h1⟩
  rcases add_pos h with h | h
  · rcases add_pos h with h | h
    · exact ⟨true, .inl (hr true h)⟩
    · exact ⟨false, .inl (hr false h)⟩
  · rcases add_pos h with h | h
    · exact ⟨true, .inr (hc true h)⟩
    · exact ⟨false, .inr (hc false h)⟩

def L (g : GSem nD τ sig) : Finset ℕ := if g.1.2 = .tc then Finset.range 16 else ∅
/-- Hop `h`'s landing is at level `2h + 2` and the credit it gives at `2h + 3`; a barrier cell at 1; everything else at 0. -/
def lv (g : GSem nD τ sig) (i : ℕ) : ℕ := match kindOf g.2 with
  | some none => 1
  | some (some (_, .inl _)) => 0
  | some (some (_, .inr (.inl _))) => 2 * i + 2
  | some (some (_, .inr (.inr _))) => 2 * i + 3
  | none => 0

theorem L_of_ne (g : GSem nD τ sig) (h : g.1.2 ≠ .tc) : L g = ∅ := if_neg h
theorem L_tc (c : Dev nD) (sm : SemLoc sig) : L ((c : Thread nD τ), sm) = Finset.range 16 := if_pos rfl
theorem hops_le (b : Bool) : hops b ≤ 16 := by cases b <;> decide

theorem lv_bar (c : Dev nD) (i : ℕ) : lv (barCell c) i = 1 := by unfold lv; rw [kind_bar]
theorem lv_send (b s) (c : Dev nD) (i : ℕ) : lv (sendCell b s c) i = 0 := by unfold lv; rw [kind_send]
theorem lv_recv (b s) (c : Dev nD) (i : ℕ) : lv (recvCell b s c) i = 2 * i + 2 := by unfold lv; rw [kind_recv]
theorem lv_cred (b) (c : Dev nD) (i : ℕ) : lv (credCell b c) i = 2 * i + 3 := by unfold lv; rw [kind_cred]

omit [FloatOps F] in
/-- A wait is below everything owed when its level is below those of the hops and credits still to come. -/
theorem mayWait (c : Dev nD) (sm : SemLoc sig) (i n : ℕ) (R C : Bool → ℕ) (hi : i < 16) (hn : lv ((c : Thread nD τ), sm) i ≤ n)
    (hR : ∀ b, R b < hops b → n < 2 * R b + 2) (hC : ∀ b, C b + 1 < hops b → n < 2 * C b + 3) : (levAts L lv : sProp 𝕄) ⊢ MayWait (c : Thread nD τ) sm i (owe R C c) :=
  MayOwe.of_cut (L := L) (lev := lv) n
    (fun p hp => by rw [Finset.mem_singleton.mp hp, L_tc]; exact Finset.mem_range.mpr hi)
    (fun g u hg => by
      obtain ⟨b, ⟨_, h, rfl⟩ | ⟨_, h, rfl⟩⟩ := owe_pos hg <;> rw [L_tc] <;> have := hops_le b <;> exact Finset.mem_range.mpr (by omega))
    (fun p hp => by rw [Finset.mem_singleton.mp hp]; exact hn)
    (fun g u hg => by
      obtain ⟨b, ⟨h, h', rfl⟩ | ⟨h, h', rfl⟩⟩ := owe_pos hg
      · rw [lv_recv]; have := hR b (by omega); omega
      · rw [lv_cred]; have := hC b (by omega); omega)

omit [FloatOps F] in
/-- The pipeline's own waits, at level 0, are below everything owed at launch. -/
theorem mayWait_stage (c : Dev nD) (q : DmaSem sig) (hq : kindOf (.dma q) = none) (O : Tal) (hO : O = owe₀ c ∨ O = 0) :
    (levAts L lv : sProp 𝕄) ⊢ MayWait (c : Thread nD τ) (.dma q) 0 O := by
  rcases hO with rfl | rfl
  · have hp {g : GSem nD τ sig} {u : ℕ} (h : 0 < owe₀ c g u) : u ∈ L g ∧ 0 < lv g u := by
      rcases add_pos h with h | h
      · rcases add_pos h with h | h
        · obtain ⟨b, ⟨_, h, rfl⟩ | ⟨_, h, rfl⟩⟩ := owe_pos h <;> rw [L_tc] <;> have := hops_le b
          · exact ⟨Finset.mem_range.mpr (by omega), by rw [lv_recv]; omega⟩
          · exact ⟨Finset.mem_range.mpr (by omega), by rw [lv_cred]; omega⟩
        · obtain ⟨rfl, rfl⟩ := tally_pos h; rw [L_tc, lv_bar]; exact ⟨by decide, by decide⟩
      · obtain ⟨rfl, rfl⟩ := tally_pos h; rw [L_tc, lv_bar]; exact ⟨by decide, by decide⟩
    refine MayOwe.of_cut (L := L) (lev := lv) 0 (fun p hp => by rw [Finset.mem_singleton.mp hp, L_tc]; exact Finset.mem_range.mpr (show (0 : ℕ) < 16 by decide))
      (fun g u hg => (hp hg).1) (fun p hp => by rw [Finset.mem_singleton.mp hp]; unfold lv; rw [hq]) (fun g u hg => (hp hg).2)
  · rw [MayWait_zero]; iintro -; iempintro

end Cert.Ring

end
-- ==== Proof.Pieces.lean ====
/-
  The steps of a hop, each proved once for either ring and any hop.

  A ring's state on a device passes through five forms in a hop: at rest before the hop (`stay`), allowed to send (`go`),
  block sent (`flying`), slot read out (`sent`), next block landed (`here`); giving the credit brings it to rest again.
-/
module

public import proofs.«01_k».proof.Proof.Common
public import Idealize.SL.BI.BigOpNat

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

abbrev 𝒱₀ : Variants := Variants.none

/-- The body's weakest precondition on device `c`. -/
abbrev Wp (c : Dev nD) (p : KProg F PUnit) (Q : PUnit.{1} → sProp 𝕄) : sProp 𝕄 :=
  wp frame (wpE (defs₀ (F := F)) 𝒱₀ (c : Thread nD τ) none) Set.univ p Q

/-! ## What every step may use -/

/-- Every cell's invariant and that every cell has reached its first round. -/
def records (K : Dev nD × Kind → ℕ) : sProp 𝕄 :=
  iprop((bigSep Finset.univ fun ck : Dev nD × Kind => cellInv ER (ringRd m) (K ck) (kcell ck))
    ∗ bigSep Finset.univ fun ck : Dev nD × Kind => reached ER (kcell ck) 0)
/-- That and the levels. -/
def env (K : Dev nD × Kind → ℕ) : sProp 𝕄 := iprop(records m K ∗ levAts L lv)

omit [FloatOps F] in
instance records_persistent (K) : BI.Persistent (records m K) := by unfold records; infer_instance
omit [FloatOps F] in
instance env_persistent (K) : BI.Persistent (env m K) := by unfold env; infer_instance

variable (K : Dev nD × Kind → ℕ)

omit [FloatOps F] in
theorem env_inv (ck : Dev nD × Kind) : env m K ⊢ cellInv ER (ringRd m) (K ck) (kcell ck) := by
  unfold env records
  iintro ⟨⟨H, -⟩, -⟩
  iapply (show _ ⊢ cellInv ER (ringRd m) (K ck) (kcell ck) from
    bigSep_elim (Φ := fun ck : Dev nD × Kind => cellInv ER (ringRd m) (K ck) (kcell ck)) (Finset.mem_univ ck)); iexact H
omit [FloatOps F] in
theorem env_reached (ck : Dev nD × Kind) : env m K ⊢ reached ER (kcell ck) 0 := by
  unfold env records
  iintro ⟨⟨-, H⟩, -⟩
  iapply (show _ ⊢ (reached ER (kcell ck) 0 : sProp 𝕄) from
    bigSep_elim (Φ := fun ck : Dev nD × Kind => (reached ER (kcell ck) 0 : sProp 𝕄)) (Finset.mem_univ ck)); iexact H
omit [FloatOps F] in
theorem env_mayWait (c : Dev nD) (sm : SemLoc sig) (i n : ℕ) (R C : Bool → ℕ) (hi : i < 16) (hn : lv ((c : Thread nD τ), sm) i ≤ n)
    (hR : ∀ b, R b < hops b → n < 2 * R b + 2) (hC : ∀ b, C b + 1 < hops b → n < 2 * C b + 3) :
    env m K ⊢ MayWait (c : Thread nD τ) sm i (owe R C c) := by
  unfold env
  iintro ⟨-, H⟩
  iapply (mayWait c sm i n R C hi hn hR hC); iexact H

/-- What device `c` owes, whatever its waits so far. -/
def owing (O : Tal) (c : Dev nD) : sProp 𝕄 := iprop(∃ W, owes (c : Thread nD τ) O W)

/-- A send (receive) cell's owner at the round of hop `h`. -/
def sendPos (b : Bool) (h : ℕ) (c : Dev nD) : sProp 𝕄 :=
  iprop(atPos ER (sendCell b (slot h) c) (h / 2) ∅ 0 ∗ reached ER (sendCell b (slot h) c) (h / 2))
def recvPos (b : Bool) (h : ℕ) (c : Dev nD) : sProp 𝕄 :=
  iprop(atPos ER (recvCell b (slot (h + 1)) c) (h / 2) ∅ 0 ∗ reached ER (recvCell b (slot (h + 1)) c) (h / 2))
def credPos (b : Bool) (h : ℕ) (c : Dev nD) : sProp 𝕄 := atPos ER (credCell b c) h ∅ 0

/-- What hop `h` uses up: the tokens of its two copies' duties and the credit of its landing. -/
def hopRes (b : Bool) (c : Dev nD) (h : ℕ) : sProp 𝕄 :=
  iprop(dutyTok ER (sendCell b (slot h) c) (h / 2) false ∗ dutyTok ER (recvCell b (slot (h + 1)) (step b c)) (h / 2) false
    ∗ cred (tallyAt (recvCell b (slot (h + 1)) c) h N))
/-- What the credit after hop `h` uses up: the token to give it, and the credit of the one to be received. -/
def credRes (b : Bool) (c : Dev nD) (h : ℕ) : sProp 𝕄 :=
  iprop(dutyTok ER (credCell b (step (!b) c)) h false ∗ cred (tallyAt (credCell b c) h 1))
/-- The hops from `h` on, the credits from `k` on. -/
def rest (b : Bool) (h k : ℕ) (c : Dev nD) : sProp 𝕄 :=
  iprop(bigSep (Finset.Ico h (hops b)) (hopRes b c) ∗ bigSep (Finset.Ico k (hops b - 1)) (credRes b c))

/-! ## A ring's state on a device -/

/-- Before hop `h + 1`. -/
def stay (b : Bool) (h : ℕ) (c : Dev nD) : sProp 𝕄 :=
  iprop(slotAt b (slot (h + 1)) c (xblk m (src b (h + 1) c)) ∗ (sendPos b (h + 1) c ∗ sendPos b (h + 2) c) ∗ (recvPos b (h + 1) c ∗ recvPos b (h + 2) c)
    ∗ credPos b h c ∗ cred (tallyAt (credCell b c) h 1) ∗ rest b (h + 1) (h + 1) c)
/-- Hop `h` may start. -/
def go (b : Bool) (h : ℕ) (c : Dev nD) : sProp 𝕄 :=
  iprop(slotAt b (slot h) c (xblk m (src b h c)) ∗ (sendPos b h c ∗ sendPos b (h + 1) c) ∗ (recvPos b h c ∗ recvPos b (h + 1) c)
    ∗ credPos b h c ∗ reached ER (credCell b c) h ∗ ready b h (step b c) ∗ rest b h h c)
/-- Hop `h`'s block is under way. -/
def flying (b : Bool) (h : ℕ) (c : Dev nD) : sProp 𝕄 :=
  iprop(cred (tallyAt (sendCell b (slot h) c) 0 N) ∗ cred (tallyAt (recvCell b (slot (h + 1)) c) h N)
    ∗ (sendPos b h c ∗ sendPos b (h + 1) c) ∗ (recvPos b h c ∗ recvPos b (h + 1) c) ∗ credPos b h c ∗ rest b (h + 1) h c)
/-- It has been read out. -/
def sent (b : Bool) (h : ℕ) (c : Dev nD) : sProp 𝕄 :=
  iprop(slotAny b (slot h) c ∗ cred (tallyAt (recvCell b (slot (h + 1)) c) h N)
    ∗ (sendPos b (h + 1) c ∗ sendPos b (h + 2) c) ∗ (recvPos b h c ∗ recvPos b (h + 1) c) ∗ credPos b h c ∗ rest b (h + 1) h c)
/-- The block received in hop `h` has landed. -/
def here (b : Bool) (h : ℕ) (c : Dev nD) : sProp 𝕄 :=
  iprop(slotAt b (slot (h + 1)) c (xblk m (src b (h + 1) c)) ∗ slotAny b (slot h) c ∗ reached ER (credCell b (step (!b) c)) h
    ∗ (sendPos b (h + 1) c ∗ sendPos b (h + 2) c) ∗ (recvPos b (h + 1) c ∗ recvPos b (h + 2) c) ∗ credPos b h c ∗ rest b (h + 1) h c)

section Steps
variable (b : Bool) (h : ℕ) (c : Dev nD) (R C : Bool → ℕ)

/-- The credit arrives: hop `h + 1` may start. -/
theorem credit_ok (Q : PUnit.{1} → sProp 𝕄) (hh : h + 1 < hops b) (hR : ∀ b', R b' < hops b' → h < R b') (hC : ∀ b', C b' + 1 < hops b' → h < C b') :
    iprop(env m K ∗ owing (owe R C c) c ∗ stay m b h c)
      ⊢ iprop((owing (owe R C c) c ∗ go m b (h + 1) c -∗ Q ⟨⟩) -∗ Wp c (creditP b) Q) := by
  unfold Wp creditP owing stay go
  simp only [semWaitWord]
  iintro ⟨#He, ⟨%W, HO⟩, Hx, Hs, Hr, Hc, Hcr, Hrest⟩ HQ
  unfold credPos
  iapply (Rounds.wp_wait_rest_token 𝒱₀ ER (ringRd m) (c : Thread nD τ) none (κ := K (c, some (b, .inr (.inr ()))))
      (wpE_semWait_eq 𝒱₀ (c : Thread nD τ) none Set.univ) (Set.mem_univ _) h (O := owe R C c) (W := W) (R := h) (m := 0) (T := ∅)
      ((Nat.zero_add _).trans (expect_one m (duties_cred m b h c hh) (amount_cred m b h c false)).symm)) $$ [HO Hc Hcr]
  · isplitr; · iapply (env_inv m K (c, some (b, .inr (.inr ())))); iexact He
    isplitl [Hcr]; · iexact Hcr
    isplitl [HO]; · iexact HO
    isplitr
    · iapply (env_mayWait m K c _ h (2 * h + 3) R C (by have := hops_le b; omega) (lv_cred _ _ _).le
        (fun b' hb => by have := hR b' hb; omega) (fun b' hb => by have := hC b' hb; omega)); iexact He
    iexact Hc
  iintro ⟨HO, Hc, #Hrc, Hpay⟩
  ihave Hp := (Entails.of_eq (rest_one m (duties_cred m b h c hh) (payload_cred m b h c false))) $$ Hpay
  rw [wp_ret]; imodintro
  iapply HQ
  isplitl [HO]; · iexists _; iexact HO
  isplitl [Hx]; · iexact Hx
  isplitl [Hs]; · iexact Hs
  isplitl [Hr]; · iexact Hr
  isplitl [Hc]; · iexact Hc
  isplitr; · iexact Hrc
  isplitl [Hp]; · iexact Hp
  iexact Hrest

omit [FloatOps F] in
theorem mem_one {g : GSem nD τ sig} {r : ℕ} (h1 : (ringRd (F := F) m).duties g r = {false}) : false ∈ (ringRd (F := F) m).duties g r :=
  h1 ▸ Finset.mem_singleton_self _

omit [FloatOps F] in
/-- The hop's own duties set apart from the later ones. -/
theorem rest_hop (k : ℕ) (hh : h < hops b) : (rest b h k c : sProp 𝕄) = iprop(hopRes b c h ∗ rest b (h + 1) k c) := by
  unfold rest; rw [bigSep_Ico_succ_bot hh]
  refine BI.Entails.antisymm (show (_ : sProp 𝕄) ⊢ _ from ?_) (show (_ : sProp 𝕄) ⊢ _ from ?_)
  · iintro ⟨⟨H1, H2⟩, H3⟩
    isplitl [H1]; · iexact H1
    isplitl [H2] <;> iassumption
  · iintro ⟨H1, H2, H3⟩
    isplitr [H3]
    · isplitl [H1] <;> iassumption
    · iexact H3

omit [FloatOps F] in
theorem landed_intro (X : Vec F S128x4096 .f32) (hX : X = xblk m (src b h c)) (f : Buf (Elt F) ((slotM b (slot h)).view.loc (c : Thread nD τ)))
    (hf : (slotM b (slot h)).view.read (Elt F) f = X) (g : Buf (Elt F) ((slotM b (slot (h + 1))).view.loc (step b c : Thread nD τ))) :
    iprop(((slotM b (slot (h + 1))).view.loc (step b c : Thread nD τ) ↦[(slotM b (slot (h + 1))).view.set]{fullShare}
        ((slotM b (slot (h + 1))).view.write (Elt F) g ((slotM b (slot h)).view.read (Elt F) f) Finset.univ)) ∗ reached ER (credCell b c) h)
      ⊢ (landed m b h (step b c) : sProp 𝕄) := by
  unfold landed slotAt owns
  rw [step_step, src_step, hf]
  iintro ⟨H, Hr⟩
  isplitl [H]
  · iexists ((slotM b (slot (h + 1))).view.write (Elt F) g X Finset.univ)
    isplitr; · ipureintro; exact (show (slotM b (slot (h + 1))).view.read (Elt F) ((slotM b (slot (h + 1))).view.write (Elt F) g X Finset.univ) = X from View.read_write_univ _ _).trans hX
    iexact H
  · iexact Hr

/-- A copy of hop `h`'s block to device `d`. -/
def sendTo (d : Dev nD) : KProg F PUnit :=
  Prog.lift (.enqueueDma (slotM b (slot h)) (.remote (Dev.tc d) (slotM b (slot (h + 1))) (.dma (sendS b (slot h))) (slotM_notSc b _))
    (.dma (recvS b (slot (h + 1)))) ((View.wordExact_bits rfl).reshape _ _) ((View.wordExact_bits rfl).reshape _ _) ⟨⟨rfl, Or.inl rfl⟩, trivial⟩)
theorem sendP_eq : sendP (F := F) b h c = sendTo b h (step b c) := by rw [← fwdD_eq]; rfl

/-- The copy starts. -/
theorem send_ok (Q : PUnit.{1} → sProp 𝕄) (R' : Bool → ℕ) (hh : h < hops b) (hR : R b = h) (hR' : bump b R = R') :
    iprop(env m K ∗ owing (owe R C c) c ∗ go m b h c)
      ⊢ iprop((owing (owe R' C c) c ∗ flying b h c -∗ Q ⟨⟩) -∗ Wp c (sendP b h c) Q) := by
  subst hR'
  rw [sendP_eq]
  unfold Wp sendTo go flying
  rw [rest_hop b h c h hh]
  unfold owing ready slotAny hopRes
  simp only [Prog.lift]
  iintro ⟨#He, ⟨%W, HO⟩, Hx, ⟨Hs, Hs'⟩, Hr, Hc, #Hrc, ⟨⟨%Y, Hy⟩, #Hrv⟩, ⟨Hts, Htr, Hcr⟩, Hrest⟩ HQ
  unfold slotAt owns sendPos
  icases Hx with ⟨%f, %hf, Hx⟩
  icases Hy with ⟨%g, %hg, Hy⟩
  icases Hs with ⟨Hs, #Hrs⟩
  have hp₁ : iprop((slotM b (slot h)).view.loc (c : Thread nD τ) ↦[(slotM b (slot h)).view.set]{fullShare} f)
      ⊢ (ringRd m).payload (sendCell b (slot h) c) (h / 2) false := by
    rw [payload_send]; unfold slotAny slotAt
    iintro H
    iexists _
    iapply (owns_intro (c : Thread nD τ) (slotM b (slot h)) fullShare f); iexact H
  have hp₂ := (landed_intro m b h c _ rfl f hf g).trans (Entails.of_eq (payload_recv m b h (step b c) false).symm)
  have hO : owe R C c = owe (bump b R) C c + tallyAt (recvCell b (slot (h + 1)) (step b c)) h N := by subst hR; exact owe_send b R C c hh
  iapply (Rounds.wp_send_pointsTo_with 𝒱₀ ER (ringRd m) (c : Thread nD τ) none (src := slotM b (slot h)) (dst := slotM b (slot (h + 1)))
      (sS := .dma (sendS b (slot h))) (sem := .dma (recvS b (slot (h + 1)))) (c' := (step b c : Thread nD τ)) (κ₁ := K (c, some (b, .inl (slot h))))
      (κ₂ := K (step b c, some (b, .inr (.inl (slot (h + 1))))))
      (r₁ := h / 2) (r₂ := h / 2) (d₁ := false) (d₂ := false) (fs := f) (fd := g) (F := reached ER (credCell b c) h)
      (mem_one m (duties_send m b h c hh))
      (mem_one m (duties_recv m b h (step b c) hh))
      h 0 N (credit_slot b _) (amount_send m b _ _ c false) (amount_recv m b _ _ (step b c) false)
      (owe (bump b R) C c) hO (W := W)
      hp₁ hp₂) $$ [HO Hx Hy Hts Htr]

  · isplitr; · iapply (env_inv m K (c, some (b, .inl (slot h)))); iexact He
    isplitr; · iapply (env_inv m K (step b c, some (b, .inr (.inl (slot (h + 1)))))); iexact He
    isplitl [Hx]; · iexact Hx
    isplitl [Hy]
    · isplitl [Hy]; · iexact Hy
      iexact Hrc
    isplitl [HO]; · iexact HO
    isplitl [Hts]; · iexact Hts
    isplitr; · iexact Hrs
    isplitl [Htr]; · iexact Htr
    iexact Hrv
  iintro ⟨Hcs, HO⟩
  rw [wp_ret]; imodintro
  iapply HQ
  isplitl [HO]; · iexists _; iexact HO
  isplitl [Hcs]; · iexact Hcs
  isplitl [Hcr]; · iexact Hcr
  isplitl [Hs Hs']
  · isplitl [Hs]
    · isplitl [Hs]; · iexact Hs
      iexact Hrs
    · iexact Hs'
  isplitl [Hr]; · iexact Hr
  isplitl [Hc]; · iexact Hc
  iexact Hrest

/-- The block sent has been read out. -/
theorem sent_ok (Q : PUnit.{1} → sProp 𝕄) (hh : h < hops b) :
    iprop(env m K ∗ owing (owe R C c) c ∗ flying b h c)
      ⊢ iprop((owing (owe R C c) c ∗ sent b h c -∗ Q ⟨⟩) -∗ Wp c (sentP b h) Q) := by
  unfold Wp sentP flying sent owing
  simp only [Prog.lift]
  rw [show (sendPos b (h + 2) c : sProp 𝕄) = iprop(atPos ER (sendCell b (slot h) c) (h / 2 + 1) ∅ 0 ∗ reached ER (sendCell b (slot h) c) (h / 2 + 1)) by
    unfold sendPos; rw [slot_add_two, show (h + 2) / 2 = h / 2 + 1 by omega]]
  rw [show (sendPos b h c : sProp 𝕄) = iprop(atPos ER (sendCell b (slot h) c) (h / 2) ∅ 0 ∗ reached ER (sendCell b (slot h) c) (h / 2)) from rfl]
  iintro ⟨#He, ⟨%W, HO⟩, Hcs, Hcr, ⟨Hs, Hs'⟩, Hr, Hc, Hrest⟩ HQ
  icases Hs with ⟨Hs, -⟩
  iapply (Rounds.wp_wait_rest_token 𝒱₀ ER (ringRd m) (c : Thread nD τ) none (κ := K (c, some (b, .inl (slot h))))
      (wpE_waitDma2_eq 𝒱₀ (c : Thread nD τ) none Set.univ (src := slotM b (slot (h + 1))) (dst := slotM b (slot h))
        (hsrc := ((View.wordExact_bits rfl).reshape _ _)) (hdst := ((View.wordExact_bits rfl).reshape _ _))) (Set.mem_univ _) 0 (O := owe R C c) (W := W) (R := h / 2) (m := 0) (T := ∅)
      ((Nat.zero_add _).trans ((credit_slot b _).trans (expect_one m (duties_send m b h c hh) (amount_send m b _ _ c false)).symm))) $$ [HO Hcs Hs]
  · isplitr; · iapply (env_inv m K (c, some (b, .inl (slot h)))); iexact He
    isplitl [Hcs]; · rw [credit_slot]; iexact Hcs
    isplitl [HO]; · iexact HO
    isplitr
    · iapply (env_mayWait m K c _ 0 0 R C (by decide) (lv_send _ _ _ _).le (fun b' _ => by omega) (fun b' _ => by omega)); iexact He
    iexact Hs
  iintro ⟨HO, Hs, Hrs, Hpay⟩
  ihave Hp := (Entails.of_eq (rest_one m (duties_send m b h c hh) (payload_send m b _ _ c false))) $$ Hpay
  rw [wp_ret]; imodintro
  iapply HQ
  isplitl [HO]; · iexists _; iexact HO
  isplitl [Hp]; · iexact Hp
  isplitl [Hcr]; · iexact Hcr
  isplitl [Hs' Hs Hrs]
  · isplitl [Hs']; · iexact Hs'
    isplitl [Hs]; · iexact Hs
    iexact Hrs
  isplitl [Hr]; · iexact Hr
  isplitl [Hc]; · iexact Hc
  iexact Hrest

/-- The block received has landed. -/
theorem land_ok (Q : PUnit.{1} → sProp 𝕄) (hh : h < hops b) (hR : ∀ b', R b' < hops b' → h < R b') (hC : ∀ b', C b' + 1 < hops b' → h ≤ C b') :
    iprop(env m K ∗ owing (owe R C c) c ∗ sent b h c)
      ⊢ iprop((owing (owe R C c) c ∗ here m b h c -∗ Q ⟨⟩) -∗ Wp c (landP b h) Q) := by
  unfold Wp landP here sent owing
  simp only [Prog.lift]
  rw [show (recvPos b (h + 2) c : sProp 𝕄) = iprop(atPos ER (recvCell b (slot (h + 1)) c) (h / 2 + 1) ∅ 0 ∗ reached ER (recvCell b (slot (h + 1)) c) (h / 2 + 1)) by
    unfold recvPos; rw [show h + 2 + 1 = h + 1 + 2 from rfl, slot_add_two, show (h + 2) / 2 = h / 2 + 1 by omega]]
  rw [show (recvPos b h c : sProp 𝕄) = iprop(atPos ER (recvCell b (slot (h + 1)) c) (h / 2) ∅ 0 ∗ reached ER (recvCell b (slot (h + 1)) c) (h / 2)) from rfl]
  iintro ⟨#He, ⟨%W, HO⟩, Hx, Hcr, Hs, ⟨Hr, Hr'⟩, Hc, Hrest⟩ HQ
  icases Hr with ⟨Hr, -⟩
  iapply (Rounds.wp_wait_rest_token 𝒱₀ ER (ringRd m) (c : Thread nD τ) none (κ := K (c, some (b, .inr (.inl (slot (h + 1))))))
      (wpE_waitDma2_eq 𝒱₀ (c : Thread nD τ) none Set.univ (src := slotM b (slot h)) (dst := slotM b (slot (h + 1)))
        (hsrc := ((View.wordExact_bits rfl).reshape _ _)) (hdst := ((View.wordExact_bits rfl).reshape _ _))) (Set.mem_univ _) h (O := owe R C c) (W := W) (R := h / 2) (m := 0) (T := ∅)
      ((Nat.zero_add _).trans ((credit_slot b _).trans (expect_one m (duties_recv m b h c hh) (amount_recv m b _ _ c false)).symm))) $$ [HO Hcr Hr]
  · isplitr; · iapply (env_inv m K (c, some (b, .inr (.inl (slot (h + 1)))))); iexact He
    isplitl [Hcr]; · rw [credit_slot]; iexact Hcr
    isplitl [HO]; · iexact HO
    isplitr
    · iapply (env_mayWait m K c _ h (2 * h + 2) R C (by have := hops_le b; omega) (lv_recv _ _ _ _).le
        (fun b' hb => by have := hR b' hb; omega) (fun b' hb => by have := hC b' hb; omega)); iexact He
    iexact Hr
  iintro ⟨HO, Hr, Hrr, Hpay⟩
  ihave Hp := (Entails.of_eq (rest_one m (duties_recv m b h c hh) (payload_recv m b h c false))) $$ Hpay
  unfold landed
  icases Hp with ⟨Hy, #Hrc⟩
  rw [wp_ret]; imodintro
  iapply HQ
  isplitl [HO]; · iexists _; iexact HO
  isplitl [Hy]; · iexact Hy
  isplitl [Hx]; · iexact Hx
  isplitr; · iexact Hrc
  isplitl [Hs]; · iexact Hs
  isplitl [Hr' Hr Hrr]
  · isplitl [Hr']; · iexact Hr'
    isplitl [Hr]; · iexact Hr
    iexact Hrr
  isplitl [Hc]; · iexact Hc
  iexact Hrest

omit [FloatOps F] in
theorem rest_cred (k : ℕ) (hh : h + 1 < hops b) : (rest b k h c : sProp 𝕄) = iprop(credRes b c h ∗ rest b k (h + 1) c) := by
  unfold rest; rw [bigSep_Ico_succ_bot (show h < hops b - 1 by omega)]
  refine BI.Entails.antisymm (show (_ : sProp 𝕄) ⊢ _ from ?_) (show (_ : sProp 𝕄) ⊢ _ from ?_)
  · iintro ⟨H1, H2, H3⟩
    isplitl [H2]; · iexact H2
    isplitl [H1] <;> iassumption
  · iintro ⟨H1, H2, H3⟩
    isplitl [H2]; · iexact H2
    isplitl [H1] <;> iassumption

/-- The credit for the next hop is given, with the slot it lands in. -/
theorem grant_ok (Q : PUnit.{1} → sProp 𝕄) (C' : Bool → ℕ) (hh : h + 1 < hops b) (hC : C b = h) (hC' : bump b C = C') :
    iprop(env m K ∗ owing (owe R C c) c ∗ here m b h c)
      ⊢ iprop((owing (owe R C' c) c ∗ stay m b h c -∗ Q ⟨⟩) -∗ Wp c (grantP b c) Q) := by
  subst hC'
  unfold Wp grantP here stay owing
  rw [rest_cred b h c (h + 1) hh]
  unfold credRes
  simp only [semSignalWord]
  generalize hd : fwdD (!b) c = d
  rw [fwdD_eq] at hd; subst hd
  rw [show (recvPos b (h + 1) c : sProp 𝕄) = iprop(atPos ER (recvCell b (slot (h + 1 + 1)) c) ((h + 1) / 2) ∅ 0
    ∗ reached ER (recvCell b (slot (h + 1 + 1)) c) ((h + 1) / 2)) from rfl]
  iintro ⟨#He, ⟨%W, HO⟩, Hx, Hy, #Hrc, Hs, ⟨Hr, Hr'⟩, Hc, ⟨Htk, Hcr⟩, Hrest⟩ HQ
  icases Hr with ⟨Hr, #Hrr⟩
  have hO : owe R C c = owe R (bump b C) c + tallyAt (credCell b (step (!b) c)) h 1 := by subst hC; exact owe_grant b R C c hh
  iapply (Rounds.wp_signal 𝒱₀ ER (ringRd m) (c : Thread nD τ) none (dst := (step (!b) c : Thread nD τ)) (κ := K (step (!b) c, some (b, .inr (.inr ()))))
      (r := h) (d := false) (mem_one m (duties_cred m b h (step (!b) c) hh)) ((amount_cred m b h (step (!b) c) false).trans (by decide)) h
      (owe R (bump b C) c) hO)
    $$ [HO Htk Hy]
  · isplitr; · iapply (env_inv m K (step (!b) c, some (b, .inr (.inr ())))); iexact He
    isplitl [HO]; · iexact HO
    isplitl [Htk]; · iexact Htk
    isplitl [Hy]
    · rw [payload_cred, step_step']
      unfold ready
      rw [show h + 1 + 1 = h + 2 from rfl, slot_add_two]
      isplitl [Hy]; · iexact Hy
      iexact Hrr
    iexact Hrc
  iintro HO
  rw [wp_ret]; imodintro
  iapply HQ
  isplitl [HO]; · iexists _; iexact HO
  isplitl [Hx]; · iexact Hx
  isplitl [Hs]; · iexact Hs
  isplitl [Hr Hr']
  · isplitl [Hr]
    · isplitl [Hr]; · iexact Hr
      iexact Hrr
    · iexact Hr'
  isplitl [Hc]; · iexact Hc
  isplitl [Hcr]; · iexact Hcr
  iexact Hrest

end Steps

end Cert.Ring

end
-- ==== Proof.Memory.lean ====
/-
  The loads and stores of the body: a slot read, a slot filled, a block's product stored into its rows of the result.
-/
module

public import proofs.«01_k».proof.Proof.Pieces
public import Idealize.ShloMosaic.Lib.Pipeline.Value

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-- Device `c`'s columns of `w`, as the pipeline stages them. -/
def wblk (c : Dev nD) : (cc0_stg1_0 : Ref sig .tc).ty.Contents (Elt F) :=
  (win0_1.blk (0 : Fin 1)).view.read (Elt F) (m ((c : Thread nD τ).loc main_arg1))

/-! ## The result by rows -/

/-- The device whose block of `x` a row of the result comes from, and the row in its block. -/
def rowOf (i : S4096x64.Idx) : Dev nD := ⟨(i 0).val / 128, by have : (i 0).val < 4096 := (i 0).isLt; show (i 0).val / 128 < 32; omega⟩
def inRow (i : S4096x64.Idx) : S128x64.Idx
  | ⟨0, _⟩ => ⟨(i 0).val % 128, Nat.mod_lt _ (by decide)⟩
  | ⟨1, _⟩ => ⟨(i 1).val, (i 1).isLt⟩

/-- The result at an index: the row's block by the device's columns. -/
def outAt (c : Dev nD) : (cc0_stg2_0 : Ref sig .tc).ty.Contents (Elt F) := fun i => k0_pay5 (xblk m (rowOf i)) (wblk m c) (inRow i)

/-- A block stored at its rows: there the block, elsewhere what was. -/
theorem out_write (j : Dev nD) (off : Fin 2 → ℕ) (hoff : off = ![128 * j.val, 0]) (hin : ∀ a, off a + S128x64.size a ≤ S4096x64.size a)
    (f : (cc0_stg2_0 : Ref sig .tc).ty.Contents (Elt F)) (X : S128x64.Idx → Elt F .f32) (i : S4096x64.Idx) :
    (oM.access (Rect.unit (s := S4096x64) off S128x64.size hin)).write (Elt F) f X Finset.univ i = if rowOf i = j then X (inRow i) else f i := by
  subst hoff
  split
  · rename_i hj
    have he : (oM.access (Rect.unit (s := S4096x64) ![128 * j.val, 0] S128x64.size hin)).emb (inRow i) = i := by
      subst hj
      funext a
      apply Fin.ext
      fin_cases a
      · show 128 * ((i 0).val / 128) + 1 * ((i 0).val % 128) = (i 0).val
        omega
      · show 0 + 1 * (i 1).val = (i 1).val
        omega
    conv_lhs => rw [← he]
    rw [View.write_emb_of_mem _ _ (Finset.mem_univ _)]
    rfl
  · rename_i hj
    apply View.write_of_not_mem
    intro hm
    apply hj
    rw [View.setOn_univ, View.set_slice_whole, Rect.mem_set_unit] at hm
    have h0 := hm 0
    apply Fin.ext
    show (i 0).val / 128 = j.val
    have h1 : 128 * j.val ≤ (i 0).val := h0.1
    have h2 : (i 0).val < 128 * j.val + 128 := h0.2
    omega

/-- The blocks of `x` multiplied once ring `b` has brought `T b` of them. -/
def got (T : Bool → ℕ) (c j : Dev nD) : Prop := j = c ∨ ∃ b, ∃ k < T b, j = src b (k + 1) c

theorem got_bump (b : Bool) (T : Bool → ℕ) (c j : Dev nD) (h : got (bump b T) c j) : j = src b (T b + 1) c ∨ got T c j := by
  rcases h with h | ⟨b', k, hk, h⟩
  · exact .inr (.inl h)
  · by_cases hb : b' = b
    · subst hb
      rw [bump_self] at hk
      rcases Nat.lt_succ_iff_lt_or_eq.mp hk with hk | rfl
      · exact .inr (.inr ⟨b', k, hk, h⟩)
      · exact .inl h
    · rw [show bump b T b' = T b' from if_neg hb] at hk
      exact .inr (.inr ⟨b', k, hk, h⟩)

/-! ## What the loads and stores work on -/

def xPt (c : Dev nD) : sProp 𝕄 := (((c : Thread nD τ).loc cc0_stg0_0) ↦{fullShare} (xblk m c : Buf (Elt F) ((c : Thread nD τ).loc cc0_stg0_0)))
def wPt (c : Dev nD) : sProp 𝕄 := (((c : Thread nD τ).loc cc0_stg1_0) ↦{fullShare} (wblk m c : Buf (Elt F) ((c : Thread nD τ).loc cc0_stg1_0)))
/-- The result staged, right on the rows of the blocks in `D`. -/
def outPt (D : Dev nD → Prop) (c : Dev nD) : sProp 𝕄 :=
  iprop(∃ f : Buf (Elt F) ((c : Thread nD τ).loc cc0_stg2_0), ⌜∀ i : S4096x64.Idx, D (rowOf i) → f i = outAt m c i⌝ ∗ (((c : Thread nD τ).loc cc0_stg2_0) ↦{fullShare} f))

omit [FloatOps F] in
theorem hz : (![0, 0] : Fin 2 → ℕ) = fun _ => 0 := by funext a; fin_cases a <;> rfl
omit [FloatOps F] in
theorem read_x (f : (cc0_stg0_0 : Ref sig .tc).ty.Contents (Elt F)) :
    (xM : Memref sig .tc .vmem S128x4096 .f32).view.readAt (Elt F) (Rect.unit (s := S128x4096) ![0, 0] S128x4096.size inb_S128x4096_S128x4096_0_0).toLoadRect f = f :=
  Memref.readAt_unit_zero (Elt F) cc0_stg0_0 hz _ f
omit [FloatOps F] in
theorem read_w (f : (cc0_stg1_0 : Ref sig .tc).ty.Contents (Elt F)) :
    (wM : Memref sig .tc .vmem S4096x64 .f32).view.readAt (Elt F) (Rect.unit (s := S4096x64) ![0, 0] S4096x64.size inb_S4096x64_S4096x64_0_0).toLoadRect f = f :=
  Memref.readAt_unit_zero (Elt F) cc0_stg1_0 hz _ f

omit [FloatOps F] in
theorem slot_read (b : Bool) (s : Fin 2) (f : (bufM b).view.ty.Contents (Elt F)) :
    shapeCast S128x4096 ((bufM b).view.readAt (Elt F) (slotR s).toLoadRect f) shapeCasts_S1x128x4096_S128x4096 = (slotM b s).view.read (Elt F) f := rfl

theorem pay1_eq (v : Vec F S1x128x4096 .f32) (w : Vec F S4096x64 .f32) : k0_pay1 v w = k0_pay5 (shapeCast S128x4096 v shapeCasts_S1x128x4096_S128x4096) w := rfl

omit [FloatOps F] in
theorem slot_set (b : Bool) (s : Fin 2) : (slotM b s).view.set = ((bufM b).access (slotR s)).set := View.set_reshape _ _

omit [FloatOps F] in
/-- A slot's contents by the ring's buffer. -/
theorem slotAt_eq (b : Bool) (s : Fin 2) (c : Dev nD) (X : Vec F S128x4096 .f32) :
    slotAt b s c X = iprop(∃ f : Buf (Elt F) ((bufM b).view.loc (c : Thread nD τ)),
      ⌜shapeCast S128x4096 ((bufM b).view.readAt (Elt F) (slotR s).toLoadRect f) shapeCasts_S1x128x4096_S128x4096 = X⌝
      ∗ ((bufM b).view.loc (c : Thread nD τ) ↦[((bufM b).access (slotR s)).set]{fullShare} f)) :=
  congrArg (fun S : Finset (Idx ((bufM b).view.loc (c : Thread nD τ))) => iprop(∃ f : Buf (Elt F) ((bufM b).view.loc (c : Thread nD τ)),
      ⌜shapeCast S128x4096 ((bufM b).view.readAt (Elt F) (slotR s).toLoadRect f) shapeCasts_S1x128x4096_S128x4096 = X⌝
      ∗ ((bufM b).view.loc (c : Thread nD τ) ↦[S]{fullShare} f))) (slot_set b s)

section Steps
variable (b : Bool) (h : ℕ) (c : Dev nD)

/-- The result with one more block. -/
theorem out_intro (D : Dev nD → Prop) (j : Dev nD) (off : Fin 2 → ℕ) (hoff : off = ![128 * j.val, 0]) (hin : ∀ a, off a + S128x64.size a ≤ S4096x64.size a)
    (f : (cc0_stg2_0 : Ref sig .tc).ty.Contents (Elt F)) (hf : ∀ i : S4096x64.Idx, D (rowOf i) → f i = outAt m c i) (i : S4096x64.Idx)
    (hi : rowOf i = j ∨ D (rowOf i)) :
    (oM.access (Rect.unit (s := S4096x64) off S128x64.size hin)).write (Elt F) f (k0_pay5 (xblk m j) (wblk m c)) Finset.univ i = outAt m c i := by
  rw [out_write j off hoff]
  split
  · rename_i hj; subst hj; rfl
  · rename_i hj; exact hf i (hi.resolve_left hj)

/-- A block in a slot multiplied into its rows of the result. -/
theorem dot_ok (T T' : Bool → ℕ) (Q : PUnit.{1} → sProp 𝕄) (hh : h < hops b) (hT : T b = h) (hT' : bump b T = T') (hin) :
    iprop(slotAt b (slot (h + 1)) c (xblk m (src b (h + 1) c)) ∗ wPt m c ∗ outPt m (got T c) c)
      ⊢ iprop((slotAt b (slot (h + 1)) c (xblk m (src b (h + 1) c)) ∗ wPt m c ∗ outPt m (got T' c) c -∗ Q ⟨⟩) -∗ Wp c (dotP b h c hin) Q) := by
  subst hT'
  rw [slotAt_eq]
  unfold Wp dotP wPt outPt
  simp only [Prog.lift, Prog.bind_op, Prog.bind_ret, Prog.pure_eq_ret]
  iintro ⟨⟨%f, %hf, Hx⟩, Hw, ⟨%g, %hg, Ho⟩⟩ HQ
  iapply (wp_load_rect 𝒱₀ (c : Thread nD τ) none Set.univ (m := bufM b) (r := slotR (slot (h + 1))) (Finset.Subset.refl _)) $$ Hx; iintro Hx
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM)
      (r := Rect.unit (s := S4096x64) (offD b h c) S128x64.size hin) (Mk := Finset.univ) (Finset.subset_univ _)) $$ Ho; iintro Ho
  rw [wp_ret]; imodintro
  iapply HQ
  isplitl [Hx]
  · iexists f
    isplitr; · ipureintro; exact hf
    iexact Hx
  isplitl [Hw]; · iexact Hw
  iexists _
  isplitr
  rotate_left
  · iexact Ho
  · ipureintro
    intro i hi
    have hf' : shapeCast S128x4096 (((bufM b).access (slotR (slot (h + 1)))).read (Elt F) f) shapeCasts_S1x128x4096_S128x4096 = xblk m (src b (h + 1) c) := hf
    rw [pay1_eq, read_w, hf']
    exact out_intro m c (got T c) (src b (h + 1) c) _ (offD_eq b h c hh) hin g hg i (hT ▸ got_bump b T c (rowOf i) hi)

/-- The device's own block multiplied into its rows. -/
theorem own_ok (Q : PUnit.{1} → sProp 𝕄) :
    iprop(xPt m c ∗ wPt m c ∗ outPt m (fun _ => False) c)
      ⊢ iprop((xPt m c ∗ wPt m c ∗ outPt m (got (fun _ => 0) c) c -∗ Q ⟨⟩) -∗ Wp c (ownP c) Q) := by
  unfold Wp ownP xPt wPt outPt
  simp only [Prog.lift, Prog.bind_op, Prog.bind_ret, Prog.pure_eq_ret]
  iintro ⟨Hx, Hw, ⟨%g, %hg, Ho⟩⟩ HQ
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM)
      (r := Rect.unit (s := S4096x64) (k0_off1 c) S128x64.size (k0_off1_inb c)) (Mk := Finset.univ) (Finset.subset_univ _)) $$ Ho; iintro Ho
  rw [wp_ret]; imodintro
  iapply HQ
  isplitl [Hx]; · iexact Hx
  isplitl [Hw]; · iexact Hw
  iexists _
  isplitr
  rotate_left
  · iexact Ho
  · ipureintro
    intro i hi
    rw [read_w, read_x, show k0_pay4 (xblk m c) = xblk m c from shapeCast_self _ _]
    refine out_intro m c (fun _ => False) c _ (k0_off1_eq c) (k0_off1_inb c) g hg i ?_
    rcases hi with hi | ⟨_, _, hk, _⟩
    · exact .inl hi
    · exact absurd hk (Nat.not_lt_zero _)

/-- The device's own block into slot 0 of a ring's buffer. -/
theorem fill_ok (Q : PUnit.{1} → sProp 𝕄) :
    iprop(xPt m c ∗ slotAny b (slot 0) c)
      ⊢ iprop((xPt m c ∗ slotAt b (slot 0) c (xblk m c) -∗ Q ⟨⟩) -∗ Wp c (fillP b) Q) := by
  unfold slotAny
  simp only [slotAt_eq]
  unfold Wp fillP xPt
  simp only [Prog.lift, Prog.bind_op, Prog.bind_ret, Prog.pure_eq_ret]
  iintro ⟨Hx, ⟨%Y, %g, %hg, Hs⟩⟩ HQ
  iapply (wp_load 𝒱₀ (c : Thread nD τ) none Set.univ (m := xM) (Finset.subset_univ _)) $$ Hx; iintro Hx
  iapply (wp_load_rect 𝒱₀ (c : Thread nD τ) none Set.univ (m := bufM b) (r := slotR (slot 0)) (Finset.Subset.refl _)) $$ Hs; iintro Hs
  iapply (wp_store 𝒱₀ (c : Thread nD τ) none Set.univ (m := bufM b) (r := slotR (slot 0)) (Mk := Finset.univ)
      (S := ((bufM b).access (slotR (slot 0))).set) (Finset.Subset.refl _)) $$ Hs; iintro Hs
  rw [wp_ret]; imodintro
  iapply HQ
  isplitl [Hx]; · iexact Hx
  iexists _
  isplitr
  rotate_left
  · iexact Hs
  · ipureintro
    rw [read_x, View.readAt_rect, View.read_write_univ]
    exact (shapeCast_shapeCast (shapeCast S128x4096 (xblk m c) shapeCasts_S128x4096_S128x4096) shapeCasts_S128x4096_S1x128x4096
      shapeCasts_S1x128x4096_S128x4096).trans (shapeCast_self _ _)

/-- Both neighbours told that the slots for hop 0 are ready, and both heard from. -/
theorem meet_ok (K : Dev nD × Kind → ℕ) (Q : PUnit.{1} → sProp 𝕄) :
    iprop(env m K ∗ owing (owe₀ c) c ∗ (dutyTok ER (barCell (step false c)) 0 true ∗ dutyTok ER (barCell (step true c)) 0 false)
        ∗ atPos ER (barCell c) 0 ∅ 0 ∗ cred (tallyAt (barCell c) 0 2) ∗ ready true 0 c ∗ ready false 0 c)
      ⊢ iprop((owing (owe (fun _ => 0) (fun _ => 0) c) c ∗ atPos ER (barCell c) 1 ∅ 0
        ∗ ready true 0 (step true c) ∗ ready false 0 (step false c) -∗ Q ⟨⟩) -∗ Wp c (meetP c) Q) := by
  unfold Wp meetP owing
  simp only [semSignalWord, semWaitWord, Prog.lift, Prog.bind_op, Prog.bind_ret, Prog.pure_eq_ret, fwdD_eq]
  have hd (b : Bool) : b ∈ (ringRd (F := F) m).duties (barCell (step (!b) c)) 0 := by rw [duties_bar]; exact Finset.mem_univ _
  have hp (b : Bool) : ready b 0 c ⊢ (ringRd (F := F) m).payload (barCell (step (!b) c)) 0 b := by
    rw [payload_bar, step_step']
  have hpt : ready true 0 c ⊢ (ringRd (F := F) m).payload (barCell (step false c)) 0 true := hp true
  have hpf : ready false 0 c ⊢ (ringRd (F := F) m).payload (barCell (step true c)) 0 false := hp false
  iintro ⟨#He, ⟨%W, HO⟩, ⟨Ht, Hf⟩, Hb, Hcr, Hr, Hr'⟩ HQ
  iapply (Rounds.wp_signal 𝒱₀ ER (ringRd m) (c : Thread nD τ) none (dst := (step false c : Thread nD τ)) (κ := K (step false c, none))
      (r := 0) (d := true) (hd true) ((amount_bar m 0 (step false c) true).trans (by decide)) 0
      (owe (fun _ => 0) (fun _ => 0) c + tallyAt (barCell (step true c)) 0 1) rfl) $$ [HO Ht Hr]
  · isplitr; · iapply (env_inv m K (step false c, none)); iexact He
    isplitl [HO]; · iexact HO
    isplitl [Ht]; · iexact Ht
    isplitl [Hr]; · iapply hpt; iexact Hr
    iapply (env_reached m K (step false c, none)); iexact He
  iintro HO
  iapply (Rounds.wp_signal 𝒱₀ ER (ringRd m) (c : Thread nD τ) none (dst := (step true c : Thread nD τ)) (κ := K (step true c, none))
      (r := 0) (d := false) (hd false) ((amount_bar m 0 (step true c) false).trans (by decide)) 0
      (owe (fun _ => 0) (fun _ => 0) c) rfl) $$ [HO Hf Hr']
  · isplitr; · iapply (env_inv m K (step true c, none)); iexact He
    isplitl [HO]; · iexact HO
    isplitl [Hf]; · iexact Hf
    isplitl [Hr']; · iapply hpf; iexact Hr'
    iapply (env_reached m K (step true c, none)); iexact He
  iintro HO
  iapply (Rounds.wp_wait_rest_token 𝒱₀ ER (ringRd m) (c : Thread nD τ) none (κ := K (c, none))
      (wpE_semWait_eq 𝒱₀ (c : Thread nD τ) none Set.univ) (Set.mem_univ _) 0 (O := owe (fun _ => 0) (fun _ => 0) c) (W := W) (R := 0) (m := 0) (T := ∅)
      ((Nat.zero_add _).trans (expect_bar m c).symm)) $$ [HO Hb Hcr]
  · isplitr; · iapply (env_inv m K (c, none)); iexact He
    isplitl [Hcr]; · iexact Hcr
    isplitl [HO]; · iexact HO
    isplitr
    · iapply (env_mayWait m K c _ 0 1 (fun _ => 0) (fun _ => 0) (by decide) (lv_bar _ _).le (fun _ _ => by decide) (fun _ _ => by decide)); iexact He
    iexact Hb
  iintro ⟨HO, Hb, -, Hpay⟩
  ihave Hp := (Entails.of_eq (rest_bar m c)) $$ Hpay
  rw [wp_ret]; imodintro
  iapply HQ
  isplitl [HO]; · iexists _; iexact HO
  isplitl [Hb]; · iexact Hb
  iexact Hp

end Steps

end Cert.Ring

end
-- ==== Proof.Hops.lean ====
/-
  The hops: the steps of either ring put in the order the body takes them, by induction over the hops both rings make
  alike, and the two at the end that differ.
-/
module

public import proofs.«01_k».proof.Proof.Memory

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × Kind → ℕ)

/-- A step, then the rest. -/
theorem seq {c : Dev nD} {A B : sProp 𝕄} {p : KProg F PUnit} {k : PUnit → KProg F PUnit} {Q : PUnit.{1} → sProp 𝕄}
    (h : ∀ Q' : PUnit.{1} → sProp 𝕄, A ⊢ iprop((B -∗ Q' ⟨⟩) -∗ Wp c p Q')) :
    A ⊢ iprop((B -∗ Wp c (k ⟨⟩) Q) -∗ Wp c (p >>= k) Q) := by
  unfold Wp; rw [wp_bind]; exact h (fun a => Wp c (k a) Q)

/-- A count per ring. -/
def two (i j : ℕ) : Bool → ℕ
  | true => i
  | false => j
theorem bump_true (i j : ℕ) : bump true (two i j) = two (i + 1) j := by funext b; cases b <;> rfl
theorem bump_false (i j : ℕ) : bump false (two i j) = two i (j + 1) := by funext b; cases b <;> rfl
theorem two_zero : (fun _ => 0) = two 0 0 := by funext b; cases b <;> rfl

/-- A block multiplied while its ring rests, or before the ring's credit is given. -/
theorem dot_stay (b : Bool) (h : ℕ) (c : Dev nD) (T T' : Bool → ℕ) (Q : PUnit.{1} → sProp 𝕄) (hh : h < hops b) (hT : T b = h) (hT' : bump b T = T') (hin) :
    iprop(stay m b h c ∗ wPt m c ∗ outPt m (got T c) c)
      ⊢ iprop((stay m b h c ∗ wPt m c ∗ outPt m (got T' c) c -∗ Q ⟨⟩) -∗ Wp c (dotP b h c hin) Q) := by
  unfold stay
  iintro ⟨⟨Hx, Hr⟩, Hw, Ho⟩ HQ
  iapply (dot_ok m b h c T T' Q hh hT hT' hin) $$ [Hx Hw Ho]
  · isplitl [Hx]; · iexact Hx
    isplitl [Hw] <;> iassumption
  iintro ⟨Hx, Hw, Ho⟩
  iapply HQ
  isplitl [Hx Hr]
  · isplitl [Hx] <;> iassumption
  isplitl [Hw] <;> iassumption
theorem dot_here (b : Bool) (h : ℕ) (c : Dev nD) (T T' : Bool → ℕ) (Q : PUnit.{1} → sProp 𝕄) (hh : h < hops b) (hT : T b = h) (hT' : bump b T = T') (hin) :
    iprop(here m b h c ∗ wPt m c ∗ outPt m (got T c) c)
      ⊢ iprop((here m b h c ∗ wPt m c ∗ outPt m (got T' c) c -∗ Q ⟨⟩) -∗ Wp c (dotP b h c hin) Q) := by
  unfold here
  iintro ⟨⟨Hx, Hr⟩, Hw, Ho⟩ HQ
  iapply (dot_ok m b h c T T' Q hh hT hT' hin) $$ [Hx Hw Ho]
  · isplitl [Hx]; · iexact Hx
    isplitl [Hw] <;> iassumption
  iintro ⟨Hx, Hw, Ho⟩
  iapply HQ
  isplitl [Hx Hr]
  · isplitl [Hx] <;> iassumption
  isplitl [Hw] <;> iassumption

/-- Between hop `h` and the next. -/
def between (h : ℕ) (c : Dev nD) : sProp 𝕄 :=
  iprop(owing (owe (two (h + 1) (h + 1)) (two (h + 1) (h + 1)) c) c ∗ stay m true h c ∗ stay m false h c ∗ wPt m c ∗ outPt m (got (two (h + 1) (h + 1)) c) c)

theorem lt_hops {h : ℕ} (h1 : h < 14) (b : Bool) : h + 1 < hops b := by cases b <;> simp only [hops] <;> omega

/-- A hop once its copies are started. -/
theorem rest_ok (h : ℕ) (h1 : h < 14) (c : Dev nD) (Q : PUnit.{1} → sProp 𝕄) :
    iprop(env m K ∗ owing (owe (two (h + 1) (h + 1)) (two h h) c) c ∗ flying true h c ∗ flying false h c ∗ wPt m c ∗ outPt m (got (two h h) c) c)
      ⊢ iprop((between m h c -∗ Q ⟨⟩) -∗ Wp c (restP h h1 c) Q) := by
  have hh (b : Bool) : h < hops b := Nat.lt_of_succ_lt (lt_hops h1 b)
  have hR (b' : Bool) : h < two (h + 1) (h + 1) b' := by cases b' <;> exact Nat.lt_succ_self h
  have hC (b' : Bool) : h ≤ two h h b' := by cases b' <;> exact le_rfl
  unfold restP between
  iintro ⟨#He, HO, Ht, Hf, Hw, Hout⟩ HQ
  iapply (seq fun Q' => sent_ok m K true h c _ _ Q' (hh true)) $$ [HO Ht]
  · isplitr; · iexact He
    isplitl [HO] <;> iassumption
  iintro ⟨HO, Ht⟩
  iapply (seq fun Q' => land_ok m K true h c _ _ Q' (hh true) (fun b' _ => hR b') (fun b' _ => hC b')) $$ [HO Ht]
  · isplitr; · iexact He
    isplitl [HO] <;> iassumption
  iintro ⟨HO, Ht⟩
  iapply (seq fun Q' => sent_ok m K false h c _ _ Q' (hh false)) $$ [HO Hf]
  · isplitr; · iexact He
    isplitl [HO] <;> iassumption
  iintro ⟨HO, Hf⟩
  iapply (seq fun Q' => land_ok m K false h c _ _ Q' (hh false) (fun b' _ => hR b') (fun b' _ => hC b')) $$ [HO Hf]
  · isplitr; · iexact He
    isplitl [HO] <;> iassumption
  iintro ⟨HO, Hf⟩
  iapply (seq fun Q' => grant_ok m K true h c _ (two h h) Q' _ (lt_hops h1 true) rfl (bump_true h h)) $$ [HO Ht]
  · isplitr; · iexact He
    isplitl [HO] <;> iassumption
  iintro ⟨HO, Ht⟩
  iapply (seq fun Q' => grant_ok m K false h c _ (two (h + 1) h) Q' _ (lt_hops h1 false) rfl (bump_false (h + 1) h)) $$ [HO Hf]
  · isplitr; · iexact He
    isplitl [HO] <;> iassumption
  iintro ⟨HO, Hf⟩
  iapply (seq fun Q' => dot_stay m true h c (two h h) _ Q' (hh true) rfl (bump_true h h) _) $$ [Ht Hw Hout]
  · isplitl [Ht]; · iexact Ht
    isplitl [Hw] <;> iassumption
  iintro ⟨Ht, Hw, Hout⟩
  iapply (dot_stay m false h c (two (h + 1) h) _ Q (hh false) rfl (bump_false (h + 1) h) _) $$ [Hf Hw Hout]
  · isplitl [Hf]; · iexact Hf
    isplitl [Hw] <;> iassumption
  iintro ⟨Hf, Hw, Hout⟩
  iapply HQ
  isplitl [HO]; · iexact HO
  isplitl [Ht]; · iexact Ht
  isplitl [Hf]; · iexact Hf
  isplitl [Hw] <;> iassumption

/-- The first hop. -/
theorem first_ok (c : Dev nD) (Q : PUnit.{1} → sProp 𝕄) :
    iprop(env m K ∗ owing (owe (two 0 0) (two 0 0) c) c ∗ go m true 0 c ∗ go m false 0 c ∗ wPt m c ∗ outPt m (got (two 0 0) c) c)
      ⊢ iprop((between m 0 c -∗ Q ⟨⟩) -∗ Wp c (firstP c) Q) := by
  unfold firstP
  iintro ⟨#He, HO, Ht, Hf, Hw, Hout⟩ HQ
  iapply (seq fun Q' => send_ok m K true 0 c (two 0 0) _ Q' _ (by decide) rfl (bump_true 0 0)) $$ [HO Ht]
  · isplitr; · iexact He
    isplitl [HO] <;> iassumption
  iintro ⟨HO, Ht⟩
  iapply (seq fun Q' => send_ok m K false 0 c (two 1 0) _ Q' _ (by decide) rfl (bump_false 1 0)) $$ [HO Hf]
  · isplitr; · iexact He
    isplitl [HO] <;> iassumption
  iintro ⟨HO, Hf⟩
  iapply (rest_ok m K 0 (Nat.succ_pos 13) c Q) $$ [HO Ht Hf Hw Hout]
  · isplitr; · iexact He
    isplitl [HO]; · iexact HO
    isplitl [Ht]; · iexact Ht
    isplitl [Hf]; · iexact Hf
    isplitl [Hw] <;> iassumption
  iintro H
  iapply HQ; iexact H

/-- Both rings' credits and copies of hop `h + 1`. -/
theorem start_ok (h : ℕ) (h1 : h + 2 < hops false + 1) (c : Dev nD) (k : PUnit → KProg F PUnit) (Q : PUnit.{1} → sProp 𝕄) :
    iprop(env m K ∗ owing (owe (two (h + 1) (h + 1)) (two (h + 1) (h + 1)) c) c ∗ stay m true h c ∗ stay m false h c)
      ⊢ iprop((owing (owe (two (h + 2) (h + 2)) (two (h + 1) (h + 1)) c) c ∗ flying true (h + 1) c ∗ flying false (h + 1) c -∗ Wp c (k ⟨⟩) Q)
        -∗ Wp c (creditP true >>= fun _ => sendP true (h + 1) c >>= fun _ => creditP false >>= fun _ => sendP false (h + 1) c >>= k) Q) := by
  have hh : ∀ b : Bool, h + 1 < hops b
    | true => by simp only [hops] at h1 ⊢; omega
    | false => Nat.lt_of_succ_lt_succ h1
  have hR (i j : ℕ) (hi : h + 1 ≤ i) (hj : h + 1 ≤ j) (b' : Bool) : h < two i j b' := by cases b' <;> assumption
  iintro ⟨#He, HO, Ht, Hf⟩ HQ
  iapply (seq fun Q' => credit_ok m K true h c _ _ Q' (hh true) (fun b' _ => hR _ _ le_rfl le_rfl b') (fun b' _ => hR _ _ le_rfl le_rfl b')) $$ [HO Ht]
  · isplitr; · iexact He
    isplitl [HO] <;> iassumption
  iintro ⟨HO, Ht⟩
  iapply (seq fun Q' => send_ok m K true (h + 1) c (two (h + 1) (h + 1)) _ Q' _ (hh true) rfl (bump_true (h + 1) (h + 1))) $$ [HO Ht]
  · isplitr; · iexact He
    isplitl [HO] <;> iassumption
  iintro ⟨HO, Ht⟩
  iapply (seq fun Q' => credit_ok m K false h c (two (h + 2) (h + 1)) _ Q' (hh false) (fun b' _ => hR _ _ (Nat.le_succ _) le_rfl b') (fun b' _ => hR _ _ le_rfl le_rfl b')) $$ [HO Hf]
  · isplitr; · iexact He
    isplitl [HO] <;> iassumption
  iintro ⟨HO, Hf⟩
  iapply (seq fun Q' => send_ok m K false (h + 1) c (two (h + 1 + 1) (h + 1)) _ Q' _ (hh false) rfl (bump_false (h + 1 + 1) (h + 1))) $$ [HO Hf]
  · isplitr; · iexact He
    isplitl [HO] <;> iassumption
  iintro ⟨HO, Hf⟩
  iapply HQ
  isplitl [HO]; · iexact HO
  isplitl [Ht] <;> iassumption

/-- A hop of both rings. -/
theorem hop_ok (h : ℕ) (h1 : h + 1 < 14) (c : Dev nD) (Q : PUnit.{1} → sProp 𝕄) :
    iprop(env m K ∗ between m h c) ⊢ iprop((between m (h + 1) c -∗ Q ⟨⟩) -∗ Wp c (hopP (h + 1) h1 c) Q) := by
  unfold hopP
  conv_lhs => unfold between
  iintro ⟨#He, HO, Ht, Hf, Hw, Hout⟩ HQ
  iapply (start_ok m K h (by simp only [hops]; omega) c) $$ [HO Ht Hf]
  · isplitr; · iexact He
    isplitl [HO]; · iexact HO
    isplitl [Ht] <;> iassumption
  iintro ⟨HO, Ht, Hf⟩
  iapply (rest_ok m K (h + 1) h1 c Q) $$ [HO Ht Hf Hw Hout]
  · isplitr; · iexact He
    isplitl [HO]; · iexact HO
    isplitl [Ht]; · iexact Ht
    isplitl [Hf]; · iexact Hf
    isplitl [Hw] <;> iassumption
  iintro H
  iapply HQ; iexact H

/-- Hops `1, …, n`. -/
theorem hops_ok (n : ℕ) (hn : n < 14) (c : Dev nD) (Q : PUnit.{1} → sProp 𝕄) :
    iprop(env m K ∗ between m 0 c) ⊢ iprop((between m n c -∗ Q ⟨⟩) -∗ Wp c (hopsP n hn c) Q) := by
  induction n generalizing Q with
  | zero =>
    unfold hopsP Wp
    rw [Prog.pure_eq_ret, wp_ret]
    iintro ⟨-, H⟩ HQ
    imodintro
    iapply HQ; iexact H
  | succ n ih =>
    rw [hopsP]
    iintro ⟨#He, H⟩ HQ
    iapply (seq fun Q' => ih (Nat.lt_of_succ_lt hn) Q') $$ [H]
    · isplitr; · iexact He
      iexact H
    iintro H
    iapply (hop_ok m K n hn c Q) $$ [H]
    · isplitr; · iexact He
      iexact H
    iintro H
    iapply HQ; iexact H

/-- The last hop of both rings. -/
theorem last_ok (c : Dev nD) (Q : PUnit.{1} → sProp 𝕄) :
    iprop(env m K ∗ between m 13 c)
      ⊢ iprop((owing (owe (two 15 15) (two 15 14) c) c ∗ stay m true 14 c ∗ here m false 14 c ∗ wPt m c ∗ outPt m (got (two 15 15) c) c -∗ Q ⟨⟩)
        -∗ Wp c (lastP c) Q) := by
  unfold lastP between
  iintro ⟨#He, HO, Ht, Hf, Hw, Hout⟩ HQ
  iapply (start_ok m K 13 (by decide) c) $$ [HO Ht Hf]
  · isplitr; · iexact He
    isplitl [HO]; · iexact HO
    isplitl [Ht] <;> iassumption
  iintro ⟨HO, Ht, Hf⟩
  iapply (seq fun Q' => sent_ok m K true 14 c _ _ Q' (by decide)) $$ [HO Ht]
  · isplitr; · iexact He
    isplitl [HO] <;> iassumption
  iintro ⟨HO, Ht⟩
  iapply (seq fun Q' => land_ok m K true 14 c (two 15 15) (two 14 14) Q' (by decide) (by decide) (by decide)) $$ [HO Ht]
  · isplitr; · iexact He
    isplitl [HO] <;> iassumption
  iintro ⟨HO, Ht⟩
  iapply (seq fun Q' => sent_ok m K false 14 c _ _ Q' (by decide)) $$ [HO Hf]
  · isplitr; · iexact He
    isplitl [HO] <;> iassumption
  iintro ⟨HO, Hf⟩
  iapply (seq fun Q' => land_ok m K false 14 c (two 15 15) (two 14 14) Q' (by decide) (by decide) (by decide)) $$ [HO Hf]
  · isplitr; · iexact He
    isplitl [HO] <;> iassumption
  iintro ⟨HO, Hf⟩
  iapply (seq fun Q' => grant_ok m K true 14 c _ (two 14 14) Q' _ (by decide) rfl (bump_true 14 14)) $$ [HO Ht]
  · isplitr; · iexact He
    isplitl [HO] <;> iassumption
  iintro ⟨HO, Ht⟩
  iapply (seq fun Q' => dot_stay m true 14 c (two 14 14) _ Q' (by decide) rfl (bump_true 14 14) _) $$ [Ht Hw Hout]
  · isplitl [Ht]; · iexact Ht
    isplitl [Hw] <;> iassumption
  iintro ⟨Ht, Hw, Hout⟩
  iapply (dot_here m false 14 c (two 15 14) _ Q (by decide) rfl (bump_false 15 14) _) $$ [Hf Hw Hout]
  · isplitl [Hf]; · iexact Hf
    isplitl [Hw] <;> iassumption
  iintro ⟨Hf, Hw, Hout⟩
  iapply HQ
  isplitl [HO]; · iexact HO
  isplitl [Ht]; · iexact Ht
  isplitl [Hf]; · iexact Hf
  isplitl [Hw] <;> iassumption

/-- The last hop of the ring to the next device. -/
theorem final_ok (c : Dev nD) (Q : PUnit.{1} → sProp 𝕄) :
    iprop(env m K ∗ owing (owe (two 15 15) (two 15 14) c) c ∗ stay m true 14 c ∗ wPt m c ∗ outPt m (got (two 15 15) c) c)
      ⊢ iprop((owing 0 c ∗ here m true 15 c ∗ wPt m c ∗ outPt m (got (two 16 15) c) c -∗ Q ⟨⟩) -∗ Wp c (finalP c) Q) := by
  rw [← owe_done (two 16 15) (two 15 14) c (by decide) (by decide)]
  unfold finalP
  iintro ⟨#He, HO, Ht, Hw, Hout⟩ HQ
  iapply (seq fun Q' => credit_ok m K true 14 c (two 15 15) (two 15 14) Q' (by decide) (by decide) (by decide)) $$ [HO Ht]
  · isplitr; · iexact He
    isplitl [HO] <;> iassumption
  iintro ⟨HO, Ht⟩
  iapply (seq fun Q' => send_ok m K true 15 c (two 15 15) _ Q' _ (by decide) rfl (bump_true 15 15)) $$ [HO Ht]
  · isplitr; · iexact He
    isplitl [HO] <;> iassumption
  iintro ⟨HO, Ht⟩
  iapply (seq fun Q' => sent_ok m K true 15 c _ _ Q' (by decide)) $$ [HO Ht]
  · isplitr; · iexact He
    isplitl [HO] <;> iassumption
  iintro ⟨HO, Ht⟩
  iapply (seq fun Q' => land_ok m K true 15 c (two 16 15) (two 15 14) Q' (by decide) (by decide) (by decide)) $$ [HO Ht]
  · isplitr; · iexact He
    isplitl [HO] <;> iassumption
  iintro ⟨HO, Ht⟩
  iapply (dot_here m true 15 c (two 15 15) _ Q (by decide) rfl (bump_true 15 15) _) $$ [Ht Hw Hout]
  · isplitl [Ht]; · iexact Ht
    isplitl [Hw] <;> iassumption
  iintro ⟨Ht, Hw, Hout⟩
  iapply HQ
  isplitl [HO]; · iexact HO
  isplitl [Ht]; · iexact Ht
  isplitl [Hw] <;> iassumption

end Cert.Ring

end
-- ==== Proof.Body.lean ====
/-
  The body whole: a ring's slots taken apart at the start and its cells closed at the end.
-/
module

public import proofs.«01_k».proof.Proof.Hops
public import Idealize.ShloMosaic.Lib.Ring

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × Kind → ℕ)

/-! ## A device's cells, one by one -/

omit [FloatOps F] in
/-- Both slots, counted from any hop. -/
theorem slots_eq (Φ : Fin 2 → sProp 𝕄) (h : ℕ) : bigSep Finset.univ Φ = iprop(Φ (slot h) ∗ Φ (slot (h + 1))) := by
  induction h with
  | zero => exact bigSep_univ_eq_bigSepL [0, 1] (by decide) (by decide) Φ
  | succ h ih =>
    rw [ih, slot_add_two]
    exact BI.Entails.antisymm (show (_ : sProp 𝕄) ⊢ _ from by iintro ⟨H1, H2⟩; isplitl [H2] <;> iassumption)
      (show (_ : sProp 𝕄) ⊢ _ from by iintro ⟨H1, H2⟩; isplitl [H2] <;> iassumption)

/-- Something of each of a ring's cells: those hop `h` uses, the others, the credit cell. -/
def each (Φ : Own → sProp 𝕄) (b : Bool) (h : ℕ) : sProp 𝕄 :=
  iprop((Φ (b, .inl (slot h)) ∗ Φ (b, .inl (slot (h + 1))))
    ∗ (Φ (b, .inr (.inl (slot (h + 1)))) ∗ Φ (b, .inr (.inl (slot (h + 2))))) ∗ Φ (b, .inr (.inr ())))

omit [FloatOps F] in
theorem own_each (Φ : Own → sProp 𝕄) (h h' : ℕ) : bigSep Finset.univ Φ = iprop(each Φ true h ∗ each Φ false h') := by
  rw [bigSep_univ_prod, bigSep_univ_eq_bigSepL [true, false] (by decide) (by decide), bigSepL_cons_cons, bigSepL_singleton]
  have one (b : Bool) (h : ℕ) : bigSep Finset.univ (fun k => Φ (b, k)) = each Φ b h := by
    unfold each
    rw [BI.bigSep_univ_sum, BI.bigSep_univ_sum, slots_eq _ h, slots_eq _ (h + 1), Finset.univ_unique, bigSep_singleton]
    rfl
  rw [one true h, one false h']
  rfl
omit [FloatOps F] in
theorem kind_own (Φ : Kind → sProp 𝕄) : bigSep Finset.univ Φ = iprop(Φ none ∗ bigSep Finset.univ fun k : Own => Φ (some k)) := by
  rw [show (Finset.univ : Finset Kind) = insert none (Finset.univ.map ⟨some, Option.some_injective Own⟩) by decide,
    bigSep_insert (by decide), bigSep_map]
  rfl

/-! ## A ring's buffer and its slots -/

/-- A ring's buffer, whatever it holds. -/
def bufAny (b : Bool) (c : Dev nD) : sProp 𝕄 := iprop(∃ f : Buf (Elt F) ((bufM b).view.loc (c : Thread nD τ)), (bufM b).view.loc (c : Thread nD τ) ↦{fullShare} f)

/-- A slot's elements. -/
def slotSet (b : Bool) (c : Dev nD) (s : Fin 2) : Finset (Idx ((bufM b).view.loc (c : Thread nD τ))) := ((bufM b).access (slotR s)).set

theorem slotSet_eq : ∀ (b : Bool) (c : Dev nD) (s : Fin 2), slotSet b c s = (match b with | true => (slotR s).set | false => (slotR s).set)
  | true, _, s => View.set_slice_whole cc0_scratch0 (slotR s)
  | false, _, s => View.set_slice_whole cc0_scratch1 (slotR s)
theorem slots_disjoint (s s' : Fin 2) (h : s ≠ s') : Disjoint (slotR s).set (slotR s').set :=
  Ring.lead_disjoint (s := S2x128x4096) (0 : Fin 3) 1 (fun s : Fin 2 => ![s.val, 0, 0]) S1x128x4096.size slot_inb (by decide) rfl s s' h
theorem slots_cover : Finset.univ.biUnion (fun s : Fin 2 => (slotR s).set) = Finset.univ :=
  Ring.lead_cover (s := S2x128x4096) (0 : Fin 3) 1 (fun s : Fin 2 => ![s.val, 0, 0]) S1x128x4096.size slot_inb (by decide) (by decide) rfl (by decide) rfl
theorem slotSet_disjoint (b : Bool) (c : Dev nD) (s s' : Fin 2) (h : s ≠ s') : Disjoint (slotSet b c s) (slotSet b c s') := by
  rw [slotSet_eq, slotSet_eq]; cases b <;> exact slots_disjoint s s' h
theorem slotSet_cover (b : Bool) (c : Dev nD) : Finset.univ.biUnion (slotSet b c) = Finset.univ := by
  rw [funext (slotSet_eq b c)]; cases b <;> exact slots_cover

omit [FloatOps F] in
theorem slotAny_eq (b : Bool) (s : Fin 2) (c : Dev nD) :
    (slotAny b s c : sProp 𝕄) = iprop(∃ f : Buf (Elt F) ((bufM b).view.loc (c : Thread nD τ)), (bufM b).view.loc (c : Thread nD τ) ↦[slotSet b c s]{fullShare} f) := by
  unfold slotAny slotSet
  simp only [slotAt_eq]
  refine BI.Entails.antisymm (show (_ : sProp 𝕄) ⊢ _ from ?_) (show (_ : sProp 𝕄) ⊢ _ from ?_)
  · iintro ⟨%X, %f, -, H⟩
    iexists f; iexact H
  · iintro ⟨%f, H⟩
    iexists _, f
    isplitr; · ipureintro; rfl
    iexact H

omit [FloatOps F] in
theorem buf_split (b : Bool) (c : Dev nD) : bufAny b c ⊢ (bigSep Finset.univ fun s => slotAny b s c : sProp 𝕄) := by
  rw [slots_eq _ 0, slotAny_eq, slotAny_eq]
  exact Ring.slots2_split (slotSet b c) (slotSet_disjoint b c) (slotSet_cover b c) _ _ (fun _ => rfl) (fun _ => rfl)
omit [FloatOps F] in
theorem buf_join (b : Bool) (c : Dev nD) : (bigSep Finset.univ fun s => slotAny b s c : sProp 𝕄) ⊢ bufAny b c := by
  rw [slots_eq _ 0, slotAny_eq, slotAny_eq]
  exact Ring.slots2_join (slotSet b c) (slotSet_disjoint b c) (slotSet_cover b c) _ _ (fun _ => rfl) (fun _ => rfl)

/-! ## From the start to the last hop -/

/-- A ring's ghost state on a device at the start: its positions, and what its hops and credits use up. -/
def begin (b : Bool) (c : Dev nD) : sProp 𝕄 := iprop(each (fun k => atPos ER (kcell (c, some k)) 0 ∅ 0) b 0 ∗ rest b 0 0 c)

omit [FloatOps F] in
/-- A ring's slot filled, the slot it sends to known to be ready: the first hop may start. -/
theorem go_intro (b : Bool) (c : Dev nD) :
    iprop(env m K ∗ slotAt b (slot 0) c (xblk m c) ∗ ready b 0 (step b c) ∗ begin b c) ⊢ go m b 0 c := by
  unfold begin each go sendPos recvPos credPos
  iintro ⟨#He, Hx, Hr, ⟨⟨Hs, Hs'⟩, ⟨Hv, Hv'⟩, Hc⟩, Hrest⟩
  isplitl [Hx]; · iexact Hx
  isplitl [Hs Hs']
  · isplitl [Hs]
    · isplitl [Hs]; · iexact Hs
      iapply (env_reached m K (c, some (b, .inl (slot 0)))); iexact He
    · isplitl [Hs']; · iexact Hs'
      iapply (env_reached m K (c, some (b, .inl (slot 1)))); iexact He
  isplitl [Hv Hv']
  · isplitl [Hv]
    · isplitl [Hv]; · iexact Hv
      iapply (env_reached m K (c, some (b, .inr (.inl (slot 1))))); iexact He
    · isplitl [Hv']; · iexact Hv'
      iapply (env_reached m K (c, some (b, .inr (.inl (slot 2))))); iexact He
  isplitl [Hc]; · iexact Hc
  isplitr; · iapply (env_reached m K (c, some (b, .inr (.inr ())))); iexact He
  isplitl [Hr]; · iexact Hr
  iexact Hrest

omit [FloatOps F] in
/-- The slot the first hop lands in is ready. -/
theorem ready_intro (b : Bool) (c : Dev nD) : iprop(env m K ∗ slotAny b (slot 1) c) ⊢ ready b 0 c := by
  unfold ready
  iintro ⟨#He, H⟩
  isplitl [H]; · iexact H
  iapply (env_reached m K (c, some (b, .inr (.inl (slot 1))))); iexact He

/-- What the body starts from. -/
def bodyPre (c : Dev nD) : sProp 𝕄 :=
  iprop(env m K ∗ owing (owe₀ c) c ∗ (dutyTok ER (barCell (step false c)) 0 true ∗ dutyTok ER (barCell (step true c)) 0 false)
    ∗ atPos ER (barCell c) 0 ∅ 0 ∗ cred (tallyAt (barCell c) 0 2) ∗ (bufAny true c ∗ bufAny false c) ∗ (begin true c ∗ begin false c)
    ∗ xPt m c ∗ wPt m c ∗ outPt m (fun _ => False) c)
/-- What the last hop leaves. -/
def bodyEnd (c : Dev nD) : sProp 𝕄 :=
  iprop(owing 0 c ∗ atPos ER (barCell c) 1 ∅ 0 ∗ (here m true 15 c ∗ here m false 14 c) ∗ xPt m c ∗ wPt m c ∗ outPt m (got (two 16 15) c) c)

theorem run_ok (c : Dev nD) (Q : PUnit.{1} → sProp 𝕄) :
    bodyPre m K c ⊢ iprop((bodyEnd m c -∗ Q ⟨⟩) -∗ Wp c bodyP Q) := by
  unfold bodyP bodyPre bodyEnd
  simp only [Prog.lift, Prog.bind_op, Prog.bind_ret, wp_deviceId]
  iintro ⟨#He, HO, Hd, Hb, Hcr, ⟨Ht, Hf⟩, ⟨Gt, Gf⟩, Hx, Hw, Hout⟩ HQ
  ihave Hst := ((buf_split true c).trans (Entails.of_eq (slots_eq _ 0))) $$ Ht
  ihave Hsf := ((buf_split false c).trans (Entails.of_eq (slots_eq _ 0))) $$ Hf
  icases Hst with ⟨Ht, Ht'⟩
  icases Hsf with ⟨Hf, Hf'⟩
  iapply (seq fun Q' => meet_ok m c K Q') $$ [HO Hd Hb Hcr Ht' Hf']
  · isplitr; · iexact He
    isplitl [HO]; · iexact HO
    isplitl [Hd]; · iexact Hd
    isplitl [Hb]; · iexact Hb
    isplitl [Hcr]; · iexact Hcr
    isplitl [Ht']
    · iapply (ready_intro m K true c)
      isplitr; · iexact He
      iexact Ht'
    · iapply (ready_intro m K false c)
      isplitr; · iexact He
      iexact Hf'
  iintro ⟨HO, Hb, Hrt, Hrf⟩
  iapply (seq fun Q' => fill_ok m true c Q') $$ [Hx Ht]
  · isplitl [Hx] <;> iassumption
  iintro ⟨Hx, Ht⟩
  iapply (seq fun Q' => fill_ok m false c Q') $$ [Hx Hf]
  · isplitl [Hx] <;> iassumption
  iintro ⟨Hx, Hf⟩
  iapply (seq fun Q' => own_ok m c Q') $$ [Hx Hw Hout]
  · isplitl [Hx]; · iexact Hx
    isplitl [Hw] <;> iassumption
  iintro ⟨Hx, Hw, Hout⟩
  iapply (seq fun Q' => first_ok m K c Q') $$ [HO Ht Hf Hrt Hrf Gt Gf Hw Hout]
  · isplitr; · iexact He
    isplitl [HO]; · iapply (Entails.of_eq (congrArg (fun R => owing (F := F) (owe R R c) c) two_zero)); iexact HO
    isplitl [Ht Hrt Gt]
    · iapply (go_intro m K true c)
      isplitr; · iexact He
      isplitl [Ht]; · iexact Ht
      isplitl [Hrt] <;> iassumption
    isplitl [Hf Hrf Gf]
    · iapply (go_intro m K false c)
      isplitr; · iexact He
      isplitl [Hf]; · iexact Hf
      isplitl [Hrf] <;> iassumption
    isplitl [Hw]; · iexact Hw
    iapply (Entails.of_eq (congrArg (fun R => outPt m (got R c) c) two_zero)); iexact Hout
  iintro H
  iapply (seq fun Q' => hops_ok m K 13 (Nat.lt_succ_self 13) c Q') $$ [H]
  · isplitr; · iexact He
    iexact H
  iintro H
  iapply (seq fun Q' => last_ok m K c Q') $$ [H]
  · isplitr; · iexact He
    iexact H
  iintro ⟨HO, Ht, Hf, Hw, Hout⟩
  iapply (final_ok m K c Q) $$ [HO Ht Hw Hout]
  · isplitr; · iexact He
    isplitl [HO]; · iexact HO
    isplitl [Ht]; · iexact Ht
    isplitl [Hw] <;> iassumption
  iintro ⟨HO, Ht, Hw, Hout⟩
  iapply HQ
  isplitl [HO]; · iexact HO
  isplitl [Hb]; · iexact Hb
  isplitl [Ht Hf]
  · isplitl [Ht] <;> iassumption
  isplitl [Hx]; · iexact Hx
  isplitl [Hw] <;> iassumption

/-! ## The end -/

omit [FloatOps F] in
/-- A cell none of whose later rounds has a duty closes. -/
theorem close_at (ck : Dev nD × Kind) (R : ℕ) (hR : ∀ r, R ≤ r → (ringRd (F := F) m).duties (kcell ck) r = ∅) :
    iprop(env m K ∗ atPos ER (kcell ck) R ∅ 0) ⊢ (|={Set.univ}=> semVal (kcell ck) 0 : sProp 𝕄) := by
  iintro ⟨#He, H⟩
  iapply (Rounds.cell_close ER (ringRd m) (Set.mem_univ (K ck)) (fun h => h) (R := R) hR)
  isplitr; · iapply (env_inv m K ck); iexact He
  iexact H

/-- After a ring's last hop: its buffer back, its cells closed at zero. -/
theorem close_ring (b : Bool) (h : ℕ) (c : Dev nD) (hh : hops b = h + 1) :
    iprop(env m K ∗ here m b h c) ⊢ (|={Set.univ}=> iprop(bufAny b c ∗ each (fun k => semVal (kcell (c, some k)) 0) b (h + 1)) : sProp 𝕄) := by
  have hb : (slotAny b (slot h) c : sProp 𝕄) = slotAny b (slot (h + 1 + 1)) c := by rw [slot_add_two]
  unfold here sendPos recvPos credPos each
  iintro ⟨#He, Hx, Hs, -, ⟨⟨Ha, -⟩, ⟨Ha', -⟩⟩, ⟨⟨Hv, -⟩, ⟨Hv', -⟩⟩, Hc, -⟩
  imod (close_at m K (c, some (b, .inl (slot (h + 1)))) ((h + 1) / 2) (fun r hr => duties_send_later m b (h + 1) r c hh.le hr)) $$ [Ha] with Z1
  · isplitr; · iexact He
    iexact Ha
  imod (close_at m K (c, some (b, .inl (slot (h + 2)))) ((h + 2) / 2) (fun r hr => duties_send_later m b (h + 2) r c (hh.le.trans (Nat.le_succ _)) hr)) $$ [Ha'] with Z2
  · isplitr; · iexact He
    iexact Ha'
  imod (close_at m K (c, some (b, .inr (.inl (slot (h + 1 + 1))))) ((h + 1) / 2) (fun r hr => duties_recv_later m b (h + 1) r c hh.le hr)) $$ [Hv] with Z3
  · isplitr; · iexact He
    iexact Hv
  imod (close_at m K (c, some (b, .inr (.inl (slot (h + 2 + 1))))) ((h + 2) / 2) (fun r hr => duties_recv_later m b (h + 2) r c (hh.le.trans (Nat.le_succ _)) hr)) $$ [Hv'] with Z4
  · isplitr; · iexact He
    iexact Hv'
  imod (close_at m K (c, some (b, .inr (.inr ()))) h (fun r hr => duties_cred_later m b r c (hh.le.trans (Nat.succ_le_succ hr)))) $$ [Hc] with Z5
  · isplitr; · iexact He
    iexact Hc
  imodintro
  isplitl [Hx Hs]
  · iapply ((Entails.of_eq (slots_eq (fun s => slotAny b s c) (h + 1)).symm).trans (buf_join b c))
    isplitl [Hx]; · unfold slotAny; iexists _; iexact Hx
    iapply (Entails.of_eq hb); iexact Hs
  isplitl [Z1 Z2]
  · isplitl [Z1] <;> iassumption
  isplitl [Z3 Z4]
  · isplitl [Z3] <;> iassumption
  iexact Z5

/-- After the last hops every block has been multiplied. -/
theorem got_all (c j : Dev nD) : got (two 16 15) c j := by
  have hc : c.val < 32 := c.isLt
  have hj : j.val < 32 := j.isLt
  by_cases h0 : j = c
  · exact .inl h0
  · have h0' : j.val ≠ c.val := fun h => h0 (Fin.ext h)
    by_cases h1 : (j.val + 32 - c.val) % 32 ≤ 15
    · refine .inr ⟨false, (j.val + 32 - c.val) % 32 - 1, ?_, ?_⟩
      · show _ < 15; omega
      · apply Fin.ext; rw [src_false_val]; omega
    · refine .inr ⟨true, (c.val + 32 - j.val) % 32 - 1, ?_, ?_⟩
      · show _ < 16; omega
      · apply Fin.ext; rw [src_true_val]; omega

/-- The two rings' buffers and every cell of the device at zero. -/
def Φ₁ (c : Dev nD) : sProp 𝕄 :=
  iprop((bufAny true c ∗ bufAny false c) ∗ semVal (barCell c) 0 ∗ bigSep Finset.univ fun k : Own => semVal (kcell (c, some k)) 0)

def bodyPost (c : Dev nD) : sProp 𝕄 :=
  iprop(owing 0 c ∗ Φ₁ c ∗ xPt m c ∗ wPt m c
    ∗ (((c : Thread nD τ).loc cc0_stg2_0) ↦{fullShare} (outAt m c : Buf (Elt F) ((c : Thread nD τ).loc cc0_stg2_0))))

theorem end_ok (c : Dev nD) : iprop(env m K ∗ bodyEnd m c) ⊢ (|={Set.univ}=> bodyPost m c : sProp 𝕄) := by
  unfold bodyEnd bodyPost Φ₁ outPt
  rw [own_each (fun k => semVal (kcell (c, some k)) 0) 16 15]
  iintro ⟨#He, HO, Hb, ⟨Ht, Hf⟩, Hx, Hw, ⟨%f, %hf, Hout⟩⟩
  imod (close_at m K (c, none) 1 (fun r hr => duties_bar_later m r c hr)) $$ [Hb] with Zb
  · isplitr; · iexact He
    iexact Hb
  imod (close_ring m K true 15 c rfl) $$ [Ht] with ⟨Bt, Zt⟩
  · isplitr; · iexact He
    iexact Ht
  imod (close_ring m K false 14 c rfl) $$ [Hf] with ⟨Bf, Zf⟩
  · isplitr; · iexact He
    iexact Hf
  imodintro
  have hout : f = outAt m c := funext fun i => hf i (got_all c (rowOf i))
  isplitl [HO]; · iexact HO
  isplitl [Zb Bt Zt Bf Zf]
  · isplitl [Bt Bf]
    · isplitl [Bt] <;> iassumption
    isplitl [Zb]; · iexact Zb
    isplitl [Zt] <;> iassumption
  isplitl [Hx]; · iexact Hx
  isplitl [Hw]; · iexact Hw
  subst hout
  iexact Hout

/-- The body, from its start to the result staged and every cell closed. -/
theorem body_ok (c : Dev nD) (Q : PUnit.{1} → sProp 𝕄) :
    iprop(bodyPre m K c ∗ (bodyPost m c -∗ Q ⟨⟩)) ⊢ Wp c bodyP Q := by
  have he : bodyPre m K c ⊢ iprop(env m K ∗ bodyPre m K c) := by
    unfold bodyPre
    iintro ⟨#He, H⟩
    isplitr; · iexact He
    isplitr; · iexact He
    iexact H
  iintro ⟨H, HQ⟩
  ihave H := he $$ H
  icases H with ⟨#He, H⟩
  iapply (wp_fupd)
  iapply (run_ok m K c _) $$ [H]
  · iexact H
  iintro H
  imod (end_ok m K c) $$ [H] with H
  · isplitr; · iexact He
    iexact H
  imodintro
  iapply HQ; iexact H

end Cert.Ring

end
-- ==== Proof.Launch.lean ====
/-
  The launch: the tokens and credits dealt to the devices, and the run of the whole program.
-/
module

public import proofs.«01_k».proof.Proof.Body
public import proofs.«01_k».proof.Proof.Gen.KernelIdeal.Points
public import Idealize.ShloMosaic.Adequacy
public import Idealize.ShloMosaic.Init
public import Idealize.ShloMosaic.Lib.Pipeline.CollectiveSegs

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-! ## The cells and the duties' tokens -/

omit [FloatOps F] in
/-- The launch's own semaphores are the rings'. -/
theorem ownSems_eq (c : Dev nD) :
    (Pipeline.ownSems0 (Ix := ℕ) (Name := ℕ) (U := UU) (Lvl := ℕ) (Val := Elt F) (τ := τ) osem c : sProp 𝕄)
      = bigSep Finset.univ fun k : Own => semVal (kcell (c, some k)) 0 := rfl

theorem ownSemFacts : Pipeline.OwnSemFacts cfg0.spec osem := by decide

theorem kcell_inj : Function.Injective (kcell : Dev nD × Kind → GSem nD τ sig) := fun ck ck' h =>
  Prod.ext (congrArg (fun g : GSem nD τ sig => g.1.1) h) (csem_inj (congrArg Prod.snd h))
def ringCells : Finset (GSem nD τ sig) := Finset.univ.map ⟨kcell, kcell_inj⟩

/-- A device's duties: its barrier cell's two; for each ring, by the hop, its send cells', its receive cells' and its credit cell's. -/
abbrev Duty : Type := Bool ⊕ ((b : Bool) × (Fin (hops b) ⊕ Fin (hops b) ⊕ Fin (hops b - 1)))
/-- A duty's cell, round and name. -/
def duty : Duty → Kind × ℕ × Bool
  | .inl d => (none, 0, d)
  | .inr ⟨b, .inl h⟩ => (some (b, .inl (slot h)), h / 2, false)
  | .inr ⟨b, .inr (.inl h)⟩ => (some (b, .inr (.inl (slot (h + 1)))), h / 2, false)
  | .inr ⟨b, .inr (.inr h)⟩ => (some (b, .inr (.inr ())), h, false)

/-- The hop a cell's round belongs to. -/
def hopOf : Kind × ℕ × Bool → ℕ
  | (none, r, _) => r
  | (some (_, .inl s), r, _) => sendHop s r
  | (some (_, .inr (.inl s)), r, _) => recvHop s r
  | (some (_, .inr (.inr _)), r, _) => r

theorem hop_send (b : Bool) (h : Fin (hops b)) : hopOf (duty (.inr ⟨b, .inl h⟩)) = h := sendHop_slot h
theorem hop_recv (b : Bool) (h : Fin (hops b)) : hopOf (duty (.inr ⟨b, .inr (.inl h)⟩)) = h := recvHop_slot h
theorem hop_cred (b : Bool) (h : Fin (hops b - 1)) : hopOf (duty (.inr ⟨b, .inr (.inr h)⟩)) = h := rfl

theorem duty_inj : Function.Injective duty := by
  rintro (d | ⟨b, h | h | h⟩) (d' | ⟨b', h' | h' | h'⟩) e
  · exact congrArg Sum.inl (congrArg (fun x : Kind × ℕ × Bool => x.2.2) e)
  · cases (congrArg Prod.fst e)
  · cases (congrArg Prod.fst e)
  · cases (congrArg Prod.fst e)
  · cases (congrArg Prod.fst e)
  · obtain rfl : b = b' := congrArg Prod.fst (Option.some.inj (congrArg Prod.fst e))
    have : h = h' := Fin.ext ((hop_send b h).symm.trans ((congrArg hopOf e).trans (hop_send b h')))
    subst this; rfl
  · cases (congrArg Prod.snd (Option.some.inj (congrArg Prod.fst e)))
  · cases (congrArg Prod.snd (Option.some.inj (congrArg Prod.fst e)))
  · cases (congrArg Prod.fst e)
  · cases (congrArg Prod.snd (Option.some.inj (congrArg Prod.fst e)))
  · obtain rfl : b = b' := congrArg Prod.fst (Option.some.inj (congrArg Prod.fst e))
    have : h = h' := Fin.ext ((hop_recv b h).symm.trans ((congrArg hopOf e).trans (hop_recv b h')))
    subst this; rfl
  · cases (congrArg Prod.snd (Option.some.inj (congrArg Prod.fst e)))
  · cases (congrArg Prod.fst e)
  · cases (congrArg Prod.snd (Option.some.inj (congrArg Prod.fst e)))
  · cases (congrArg Prod.snd (Option.some.inj (congrArg Prod.fst e)))
  · obtain rfl : b = b' := congrArg Prod.fst (Option.some.inj (congrArg Prod.fst e))
    have : h = h' := Fin.ext ((hop_cred b h).symm.trans ((congrArg hopOf e).trans (hop_cred b h')))
    subst this; rfl

/-- A device's duty as a token is named. -/
def tokOf (ct : Dev nD × Duty) : GSem nD τ sig × ℕ × Bool := (kcell (ct.1, (duty ct.2).1), (duty ct.2).2)
theorem tokOf_inj : Function.Injective tokOf := fun ct ct' h => by
  have h1 := kcell_inj (congrArg (fun x : GSem nD τ sig × ℕ × Bool => x.1) h)
  have h2 : (duty ct.2).2 = (duty ct'.2).2 := congrArg (fun x : GSem nD τ sig × ℕ × Bool => x.2) h
  exact Prod.ext (congrArg (fun x : Dev nD × Kind => x.1) h1) (duty_inj (Prod.ext (congrArg (fun x : Dev nD × Kind => x.2) h1) h2))
def ringToks : Finset (GSem nD τ sig × ℕ × Bool) := Finset.univ.map ⟨tokOf, tokOf_inj⟩

/-- What the launch starts from: the pipeline's cells and the rings'. -/
def u₀ : UU := (initOf (Pipeline.cells cfgs cellOf_inj) (Pipeline.launchToks cfgs cellOf_inj), initOf ringCells ringToks)

/-- A ring's tokens of one kind on a device. -/
def sendToks (b : Bool) (c : Dev nD) : sProp 𝕄 := bigSep (Finset.Ico 0 (hops b)) fun h => dutyTok ER (sendCell b (slot h) c) (h / 2) false
def recvToks (b : Bool) (c : Dev nD) : sProp 𝕄 := bigSep (Finset.Ico 0 (hops b)) fun h => dutyTok ER (recvCell b (slot (h + 1)) c) (h / 2) false
def credToks (b : Bool) (c : Dev nD) : sProp 𝕄 := bigSep (Finset.Ico 0 (hops b - 1)) fun h => dutyTok ER (credCell b c) h false
/-- The tokens of a device's own cells. -/
def ownToks (c : Dev nD) : sProp 𝕄 :=
  iprop((dutyTok ER (barCell c) 0 true ∗ dutyTok ER (barCell c) 0 false)
    ∗ (sendToks true c ∗ recvToks true c ∗ credToks true c) ∗ (sendToks false c ∗ recvToks false c ∗ credToks false c))
/-- The tokens of the duties a device pays. -/
def payRing (b : Bool) (c : Dev nD) : sProp 𝕄 := iprop(sendToks b c ∗ recvToks b (step b c) ∗ credToks b (step (!b) c))
def payToks (c : Dev nD) : sProp 𝕄 :=
  iprop((dutyTok ER (barCell (step false c)) 0 true ∗ dutyTok ER (barCell (step true c)) 0 false) ∗ payRing true c ∗ payRing false c)

omit [FloatOps F] in
/-- Something of each hop, the hops counted. -/
theorem bigSep_hops (n : ℕ) (Φ : ℕ → sProp 𝕄) : (bigSep Finset.univ fun h : Fin n => Φ h) = bigSep (Finset.Ico 0 n) Φ := by
  have h : Finset.Ico 0 n = (Finset.univ : Finset (Fin n)).map Fin.valEmbedding := by
    ext k
    rw [Finset.mem_Ico, Finset.mem_map]
    exact ⟨fun hk => ⟨⟨k, hk.2⟩, Finset.mem_univ _, rfl⟩, fun ⟨i, _, hi⟩ => hi ▸ ⟨Nat.zero_le _, i.isLt⟩⟩
  rw [h, bigSep_map]; rfl

omit [FloatOps F] in
theorem toks_eq (c : Dev nD) :
    (bigSep Finset.univ fun t : Duty => (dutyTok ER (tokOf (c, t)).1 (tokOf (c, t)).2.1 (tokOf (c, t)).2.2 : sProp 𝕄)) = ownToks c := by
  unfold ownToks sendToks recvToks credToks
  rw [BI.bigSep_univ_sum, bigSep_univ_eq_bigSepL [true, false] (by decide) (by decide), bigSepL_cons_cons, bigSepL_singleton,
    Pipeline.bigSep_univ_sigma, bigSep_univ_eq_bigSepL [true, false] (by decide) (by decide), bigSepL_cons_cons, bigSepL_singleton]
  simp only [BI.bigSep_univ_sum, ← bigSep_hops]
  rfl

omit [FloatOps F] in
/-- The tokens dealt around: each device gets those of the duties it pays. -/
theorem toks_around : (bigSep Finset.univ fun c : Dev nD => (ownToks c : sProp 𝕄)) ⊢ bigSep Finset.univ fun c : Dev nD => payToks c := by
  unfold ownToks payToks payRing
  simp only [bigSep_sep']
  rw [bigSep_univ_equiv (ring false) (fun c : Dev nD => (dutyTok ER (barCell c) 0 true : sProp 𝕄)),
    bigSep_univ_equiv (ring true) (fun c : Dev nD => (dutyTok ER (barCell c) 0 false : sProp 𝕄)),
    bigSep_univ_equiv (ring true) (fun c : Dev nD => (recvToks true c : sProp 𝕄)),
    bigSep_univ_equiv (ring false) (fun c : Dev nD => (recvToks false c : sProp 𝕄)),
    bigSep_univ_equiv (ring false) (fun c : Dev nD => (credToks true c : sProp 𝕄)),
    bigSep_univ_equiv (ring true) (fun c : Dev nD => (credToks false c : sProp 𝕄))]
  exact BI.Entails.refl _

/-! ## What each device is dealt -/

/-- What the launch gives a device. -/
def G (c : Dev nD) : sProp 𝕄 :=
  iprop((bigSep Finset.univ fun k : Kind => roundState ER (ringRd m) (kcell (c, k)) 0)
    ∗ (bigSep Finset.univ fun k : Kind => iprop(atPos ER (kcell (c, k)) 0 ∅ 0 ∗ reached ER (kcell (c, k)) 0)) ∗ ownToks c)
/-- What of it is the device's alone once the tokens are dealt around. -/
def linear (c : Dev nD) : sProp 𝕄 := iprop((bigSep Finset.univ fun k : Kind => atPos ER (kcell (c, k)) 0 ∅ 0) ∗ payToks c)
def G' (c : Dev nD) : sProp 𝕄 := iprop(∃ K, records m K ∗ linear c)

omit [FloatOps F] in
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Kind => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]
    exact bigSep_congr fun c _ => toks_eq c
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The runtime's barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ ownToks c) := by
  have hall : iprop((bigSep Finset.univ fun k : Kind => semVal (kcell (c, k)) 0) ∗ bigSep Finset.univ fun k : Kind => roundState ER (ringRd m) (kcell (c, k)) 0)
      ⊢ (|={Set.univ}=> bigSep Finset.univ fun k => iprop(∃ κ : ℕ, cellInv ER (ringRd m) κ (kcell (c, k))) : sProp 𝕄) := by
    rw [← bigSep_sep']
    exact (bigSep_mono fun k _ => (Rounds.body_intro ER (ringRd m) (kcell (c, k))).trans inv_alloc).trans (bigSep_fupd _ _)
  unfold G
  iintro ⟨Hos, Hus, Hst, Hat, Htok⟩
  imod hall $$ [Hos Hus Hst] with Hinv
  · isplitl [Hos Hus]
    · iapply (Entails.of_eq (kind_own (fun k : Kind => (semVal (kcell (c, k)) 0 : sProp 𝕄))).symm)
      isplitl [Hus]
      · iapply (Entails.of_eq (unscopedSems0_eq c)); iexact Hus
      iapply (Entails.of_eq (ownSems_eq c)); iexact Hos
    iexact Hst
  imodintro
  isplitl [Hinv]; · iexact Hinv
  isplitl [Hat] <;> iassumption

omit [FloatOps F] in
/-- A resource that may be used again, given to each. -/
theorem bigSep_give {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' m) := by
  rw [bigSep_sep', bigSep_sep', ← bigSep_univ_prod (fun ck : Dev nD × Kind => iprop(∃ κ : ℕ, cellInv ER (ringRd m) κ (kcell ck))),
    bigSep_congr (s := Finset.univ) (fun (c : Dev nD) _ => bigSep_sep' Finset.univ (fun k : Kind => (atPos ER (kcell (c, k)) 0 ∅ 0 : sProp 𝕄)) (fun k => reached ER (kcell (c, k)) 0)),
    bigSep_sep', ← bigSep_univ_prod (fun ck : Dev nD × Kind => (reached ER (kcell ck) 0 : sProp 𝕄))]
  iintro ⟨HI, ⟨Hat, #HR⟩, Htok⟩
  ihave HK := (BI.bigSep_exists_pi Finset.univ (fun (ck : Dev nD × Kind) (κ : ℕ) => (cellInv ER (ringRd m) κ (kcell ck) : sProp 𝕄))) $$ HI
  icases HK with ⟨%K, #HI⟩
  ihave Htk := (toks_around (F := F)) $$ Htok
  iapply (bigSep_give (R := records m K) (Φ := linear) fun c _ => show iprop(records m K ∗ linear c) ⊢ G' m c from by
    unfold G'; iintro H; iexists K; iexact H)
  isplitr
  · unfold records; isplitl; · iexact HI
    iexact HR
  · unfold linear; rw [bigSep_sep']
    isplitl [Hat] <;> iassumption

omit [FloatOps F] in
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of what is owed -/

/-- What is owed to a ring's cells on a device. -/
def dueR (b : Bool) (c : Dev nD) : Tal := ∑ h ∈ Finset.Ico 0 (hops b), tallyAt (recvCell b (slot (h + 1)) c) h N
def dueC (b : Bool) (c : Dev nD) : Tal := ∑ h ∈ Finset.Ico 0 (hops b - 1), tallyAt (credCell b c) h 1
/-- What is owed to a device's cells. -/
def due (c : Dev nD) : Tal :=
  (((dueR true c + dueR false c) + (dueC true c + dueC false c)) + tallyAt (barCell c) 0 1) + tallyAt (barCell c) 0 1

theorem sum_step (b : Bool) (T : Dev nD → Tal) : ∑ c, T (step b c) = ∑ c, T c := Equiv.sum_comp (ring b) T

/-- All that the devices owe is all that is owed to them. -/
theorem sum_owe : (∑ d, owe₀ d) = ∑ d, due d := by
  have hr (b : Bool) : (∑ d, oweR b 0 d) = ∑ d, dueR b d := sum_step b (dueR b)
  have hc (b : Bool) : (∑ d, oweC b 0 d) = ∑ d, dueC b d := sum_step (!b) (dueC b)
  have hb (b : Bool) : (∑ d : Dev nD, (tallyAt (barCell (step b d)) 0 1 : Tal)) = ∑ d : Dev nD, tallyAt (barCell d) 0 1 :=
    sum_step b fun d => tallyAt (barCell d) 0 1
  unfold owe₀ due owe
  simp only [Finset.sum_add_distrib, hr, hc, hb]

theorem due_core (c : Dev nD) (g : GSem nD τ sig) (hg : due c g ≠ 0) : g.1 = (c.tc : Thread nD τ) := by
  obtain ⟨i, hi⟩ := DFunLike.ne_iff.mp hg
  have h : 0 < due c g i := Nat.pos_of_ne_zero hi
  have hr (b : Bool) (h : 0 < dueR b c g i) : g.1 = (c.tc : Thread nD τ) := by
    obtain ⟨k, _, hp⟩ := sum_pos h; obtain ⟨rfl, _⟩ := tally_pos hp; rfl
  have hc (b : Bool) (h : 0 < dueC b c g i) : g.1 = (c.tc : Thread nD τ) := by
    obtain ⟨k, _, hp⟩ := sum_pos h; obtain ⟨rfl, _⟩ := tally_pos hp; rfl
  rcases add_pos h with h | h
  · rcases add_pos h with h | h
    · rcases add_pos h with h | h
      · rcases add_pos h with h | h
        · exact hr true h
        · exact hr false h
      · rcases add_pos h with h | h
        · exact hc true h
        · exact hc false h
    · obtain ⟨rfl, _⟩ := tally_pos h; rfl
  · obtain ⟨rfl, _⟩ := tally_pos h; rfl

/-- A ring's credits on a device. -/
def dueRing (b : Bool) (c : Dev nD) : sProp 𝕄 :=
  iprop((bigSep (Finset.Ico 0 (hops b)) fun h => cred (tallyAt (recvCell b (slot (h + 1)) c) h N))
    ∗ bigSep (Finset.Ico 0 (hops b - 1)) fun h => cred (tallyAt (credCell b c) h 1))

omit [FloatOps F] in
theorem creds (c : Dev nD) :
    (Pipeline.launchCred owe₀ c : sProp 𝕄) ⊢ iprop(cred (tallyAt (barCell c) 0 2) ∗ dueRing true c ∗ dueRing false c) := by
  have hadd (T T' : Tal) : (cred (T + T') : sProp 𝕄) = iprop(cred T ∗ cred T') := BI.Entails.antisymm (cred_add _ _).1 (cred_add _ _).2
  rw [Pipeline.launchCred_of_sum owe₀ due sum_owe due_core c]
  unfold due dueRing dueR dueC
  rw [add_assoc _ (tallyAt (barCell c) 0 1), tallyAt_add]
  simp only [hadd, Pipeline.cred_finsetSum]
  iintro ⟨⟨⟨H1, H2⟩, H3, H4⟩, H5⟩
  isplitl [H5]; · iexact H5
  isplitl [H1 H3]
  · isplitl [H1] <;> iassumption
  isplitl [H2] <;> iassumption

/-! ## From the launch to the body -/

omit [FloatOps F] in
theorem rest_intro (b : Bool) (c : Dev nD) : iprop(payRing b c ∗ dueRing b c) ⊢ (rest b 0 0 c : sProp 𝕄) := by
  unfold payRing dueRing rest hopRes credRes sendToks recvToks credToks
  simp only [bigSep_sep']
  iintro ⟨⟨H1, H2, H3⟩, H4, H5⟩
  isplitl [H1 H2 H4]
  · isplitl [H1]; · iexact H1
    isplitl [H2] <;> iassumption
  isplitl [H3] <;> iassumption

/-- What a device's body starts from, besides its buffers and what it owes. -/
def start (c : Dev nD) : sProp 𝕄 :=
  iprop(∃ K, env m K ∗ (dutyTok ER (barCell (step false c)) 0 true ∗ dutyTok ER (barCell (step true c)) 0 false)
    ∗ atPos ER (barCell c) 0 ∅ 0 ∗ cred (tallyAt (barCell c) 0 2) ∗ (begin true c ∗ begin false c))

omit [FloatOps F] in
theorem start_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ G' m c)
      ⊢ |={Set.univ}=> iprop(start m c ∗ emp) := by
  have hpos : (bigSep Finset.univ fun k : Kind => (atPos ER (kcell (c, k)) 0 ∅ 0 : sProp 𝕄))
      ⊢ iprop(atPos ER (barCell c) 0 ∅ 0 ∗ each (fun k => atPos ER (kcell (c, some k)) 0 ∅ 0) true 0 ∗ each (fun k => atPos ER (kcell (c, some k)) 0 ∅ 0) false 0) := by
    rw [kind_own, own_each _ 0 0]
    exact BI.Entails.refl _
  unfold G' linear payToks start env begin
  iintro ⟨-, #Hlev, Hcr, -, ⟨%K, #Hrec, Hat, Hd, Ht, Hf⟩⟩
  ihave Hc := (creds (F := F) c) $$ Hcr
  icases Hc with ⟨Hb, Ct, Cf⟩
  ihave Hp := hpos $$ Hat
  icases Hp with ⟨Hab, Pt, Pf⟩
  imodintro
  isplitl
  · iexists K
    isplitr
    · isplitr; · iexact Hrec
      iexact Hlev
    isplitl [Hd]; · iexact Hd
    isplitl [Hab]; · iexact Hab
    isplitl [Hb]; · iexact Hb
    isplitl [Pt Ht Ct]
    · isplitl [Pt]; · iexact Pt
      iapply (rest_intro true c)
      isplitl [Ht] <;> iassumption
    · isplitl [Pf]; · iexact Pf
      iapply (rest_intro false c)
      isplitl [Hf] <;> iassumption
  · iempintro

def dats (_ : Fin 1) (c : Dev nD) : Dat τ (Elt F) ℕ ℕ UU ℕ cfg0 c where
  A w := m ((cfg0.win w).arr.view.loc (c : Thread nD τ))
  after w _ := match w with
    | ⟨0, _⟩ => xblk m c
    | ⟨1, _⟩ => wblk m c
    | ⟨2, _⟩ => outAt m c
  Φ t := match t with
    | ⟨0, _⟩ => iprop(start m c ∗ bufAny true c ∗ bufAny false c)
    | ⟨_ + 1, _⟩ => Φ₁ c
  q _ := fullShare
  owed t := match t with
    | ⟨0, _⟩ => owe₀ c
    | ⟨_ + 1, _⟩ => 0

/-- A staging buffer at some contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem owns_whole (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns; simp only [Memref.view_whole, View.read_whole, View.set_whole]

/-- The body's obligation before and after its one point, the windows one by one. -/
def obPre (c : Dev nD) : sProp 𝕄 :=
  iprop((start m c ∗ bufAny true c ∗ bufAny false c) ∗ (dats m 0 c).owesAt 0 t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
def obPost (c : Dev nD) : sProp 𝕄 :=
  iprop(Φ₁ c ∗ (dats m 0 c).owesAt 0 t0_0.succ ∗ stg c cc0_stg0_0 (xblk m c) ∗ stg c cc0_stg1_0 (wblk m c) ∗ stg c cc0_stg2_0 (outAt m c))

theorem ob_intro (c : Dev nD) : obPre m c ⊢ iprop(∃ K, bodyPre m K c) := by
  unfold obPre start bodyPre xPt wPt outPt owing Dat.owesAt Pipeline.owesWithin
  iintro ⟨⟨⟨%K, He, Hd, Hab, Hb, Hg⟩, Hbufs⟩, Ho, ⟨%d0, %g0, %hg0, Hx⟩, ⟨%d1, %g1, %hg1, Hw⟩, ⟨%d2, %g2, %hg2, Hout⟩⟩
  have hx : g0 = xblk m c := by rw [hg0]; unfold Dat.before; rw [if_pos (fetch0_0 t0_0)]; rfl
  have hw : g1 = wblk m c := by rw [hg1]; unfold Dat.before; rw [if_pos (fetch0_1 t0_0)]; rfl
  subst hx
  subst hw
  icases Ho with ⟨%W, %hW, HO⟩
  iexists K
  isplitl [He]; · iexact He
  isplitl [HO]; · iexists W; iexact HO
  isplitl [Hd]; · iexact Hd
  isplitl [Hab]; · iexact Hab
  isplitl [Hb]; · iexact Hb
  isplitl [Hbufs]; · iexact Hbufs
  isplitl [Hg]; · iexact Hg
  isplitl [Hx]; · iexact Hx
  isplitl [Hw]; · iexact Hw
  iexists g2
  isplitr; · ipureintro; exact fun _ h => h.elim
  iexact Hout

theorem ob_exit (c : Dev nD) : bodyPost m c ⊢ obPost m c := by
  unfold obPost bodyPost xPt wPt owing Dat.owesAt Pipeline.owesWithin
  iintro ⟨⟨%W, HO⟩, HΦ, Hx, Hw, Hout⟩
  isplitl [HΦ]; · iexact HΦ
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

theorem ob_ok (c : Dev nD) :
    obPre m c ⊢ Wp c (cc0_body (F := F) xM (Memref.isWhole_whole _) wM (Memref.isWhole_whole _) oM (Memref.isWhole_whole _) (Memref.whole cc0_scratch0) (Memref.isWhole_whole _)
      (Memref.whole cc0_scratch1) (Memref.isWhole_whole _) cc0_scratch2 cc0_scratch3 cc0_scratch4 cc0_scratch5 cc0_scratch6 cc0_scratch7) (fun _ => obPost m c) := by
  rw [body_eq]
  iintro H
  ihave H := (ob_intro m c) $$ H
  icases H with ⟨%K, H⟩
  iapply (body_ok m K c fun _ => obPost m c)
  isplitl [H]; · iexact H
  iintro H
  iapply (ob_exit m c); iexact H

set_option maxRecDepth 8000 in
theorem body_obligation (c : Dev nD) : BodyObligation (dats (F := F) m 0 c) (defs₀ (F := F)) 𝒱₀ 0 Set.univ := fun t => by
  rw [fin_N0 t]
  rw [bigSep_W0, bigSep_W0]
  simp only [owns_whole]
  have h := ob_ok m c
  unfold obPre obPost Wp at h
  rw [show (dats m 0 c).Φ t0_0.castSucc = iprop(start m c ∗ bufAny true c ∗ bufAny false c) from rfl,
    show (dats m 0 c).Φ t0_0.succ = Φ₁ c from rfl, show (dats m 0 c).after 0 t0_0 = xblk m c from rfl,
    show (dats m 0 c).after 1 t0_0 = wblk m c from rfl, show (dats m 0 c).after 2 t0_0 = outAt m c from rfl,
    show defs₀ (F := F) Proc.tc 0 (t0_0, cfg0.slots t0_0) = bodyAt0 t0_0 from rfl]
  iintro H
  iapply h
  iexact H

/-! ## The run -/

theorem share_eq (c : Dev nD) (w : Fin cfg0.W) : (dats m 0 c).share w = fullShare := by unfold Dat.share; split <;> rfl

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ bufAny true c ∗ bufAny false c) from rfl, scopedRest0_eq]
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, unscopedSems0_eq, ownSems_eq]
  unfold Φ₁
  iintro ⟨Hr, Hb, Ho⟩
  isplitl [Hb]; · iexact Hb
  isplitl [Ho]; · iexact Ho
  iexact Hr

theorem waits (c : Dev nD) : (levAts L lv : sProp 𝕄) ⊢ Pipeline.cellsWaits cfgs (dats m) 0 0 c :=
  Pipeline.cellsWaits_intro cfgs (dats m) 0 0 c fun w s t =>
    mayWait_stage c _ (by fin_cases w <;> fin_cases s <;> decide) _ (by
      rcases t with ⟨_ | _, ht⟩
      · exact Or.inl rfl
      · exact Or.inr rfl)

/-- The arrays after the run. -/
def finalA (c : Dev nD) (w : Fin cfg0.W) : Buf (Elt F) ((cfg0.win w).arr.view.loc (c : Thread nD τ)) := (dats m 0 c).arrAt w cfg0.N

set_option maxRecDepth 8000 in
/-- Every weakly fair execution of the program, at any float values and from any memory with zero counters, terminates
    with the arrays as computed and every semaphore counter at zero. -/
theorem run_arrays : θ_run defs (onTc (τ := τ) (main (F := F))) ⟨m, fun _ => 0, ρ⟩ (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := owe₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Ring

end
-- ==== Proof.Value.lean ====
/-
  The values: what the run leaves in the arrays, and that it is each device's columns of the reference's product.
-/
module

public import proofs.«01_k».proof.Defs
public import proofs.«01_k».proof.Proof.Launch
public import proofs.«01_k».proof.Proof.Gen.ReferenceIdeal.Run
public import Idealize.ShloMosaic.Lib.Layout
public import Idealize.ShloMosaic.Lib.MatmulPlain
public import Idealize.ShloMosaic.Lib.StackMember
public import Idealize.ShloMosaic.Lib.Quiescent
public import Idealize.ShloMosaic.Lib.Pipeline.ValueKit.Geometry

@[expose] public section

noncomputable section

namespace Cert.Ring

open Cert.KernelIdeal Cert.KernelIdeal.Gen
open Idealize.ShloMosaic Idealize.ShloMosaic.TcCoe
open Idealize.SL Idealize.SL.Sem
open Idealize.ShloMosaic.ValueIdx

variable {F : FTy → Type} [FloatOps F]
variable (m : (ℓ : Loc nD τ sig) → Buf (Elt F) ℓ) (ρ : Dev nD → PrngReg)

/-! ## The arrays after the run -/

omit [FloatOps F] in
/-- What is staged of `x` on a device is the device's whole block. -/
theorem xblk_eq (c : Dev nD) : xblk m c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

omit [FloatOps F] in
/-- What is staged of `w` on a device is the device's whole block. -/
theorem wblk_eq (c : Dev nD) : wblk m c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _

theorem final_x (c : Dev nD) : finalA m c (0 : Fin 3) = m ((c : Thread nD τ).loc main_arg0) := (dats m 0 c).arrAt_in (0 : Fin 3) rfl _
theorem final_w (c : Dev nD) : finalA m c (1 : Fin 3) = m ((c : Thread nD τ).loc main_arg1) := (dats m 0 c).arrAt_in (1 : Fin 3) rfl _
theorem final_out (c : Dev nD) : finalA m c (2 : Fin 3) = outAt m c := by
  refine (dats m 0 c).arrAt_eq_of_after_last (2 : Fin 3) t0_0 (show win0_2.WholeAt t0_0 from by decide +kernel) _ fun j => ?_
  rfl

/-- Every weakly fair execution of the program, at any float values and from any memory with zero counters, terminates
    with the result on each device as `outAt`, the arguments as they were and every semaphore counter at zero. -/
theorem run_main : θ_run defs (onTc (τ := τ) (main (F := F))) ⟨m, fun _ => 0, ρ⟩ (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (2 : Fin 3)).trans (final_out m c), (h.1 c (0 : Fin 3)).trans (final_x m c),
    (h.1 c (1 : Fin 3)).trans (final_w m c)⟩, h.2⟩) (run_arrays m ρ)

/-! ## The product -/

/-- The whole product at an index. -/
def prod (X : (⟨2, ![4096, 4096]⟩ : Shape).Idx → Elt Ideal .f32) (W : (⟨2, ![4096, 2048]⟩ : Shape).Idx → Elt Ideal .f32) :
    (⟨2, ![4096, 2048]⟩ : Shape).Idx → Elt Ideal .f32 :=
  Host.dotGeneral (F := Ideal) (φ₁ := .f32) (φ₂ := .f32) Cert.ReferenceIdeal.dot_S4096x4096_S4096x2048_S4096x2048_1_0_0_1_n_n none X W

theorem prod_apply (X : (⟨2, ![4096, 4096]⟩ : Shape).Idx → Elt Ideal .f32) (W : (⟨2, ![4096, 2048]⟩ : Shape).Idx → Elt Ideal .f32) (r : Fin 4096) (l : Fin 2048) :
    prod X W (ix2 r l) = ∑ k : Fin 4096, (X (ix2 r k) : EReal) * W (ix2 k l) :=
  StackMember.dotGeneral_plain_apply (m := 4096) (n := 2048) (k := 4096) (φ₁ := .f32) (φ₂ := .f32) none X W r l

/-- A block's product at an index. -/
theorem pay_apply (X : Vec Ideal S128x4096 .f32) (W : Vec Ideal S4096x64 .f32) (r : Fin 128) (l : Fin 64) :
    k0_pay5 X W (ix2 r l) = ∑ k : Fin 4096, (X (ix2 r k) : EReal) * W (ix2 k l) := by
  have hW : shapeCast S4096x64 W shapeCasts_S4096x64_S4096x64 = W := shapeCast_self _ _
  refine (Ideal.matmul_plain_apply (M := 128) (K := 4096) (N := 64) (φ₁ := .f32) (φ₂ := .f32) none X (shapeCast S4096x64 W shapeCasts_S4096x64_S4096x64) (constant S128x64 .f32 0x00000000#32) r l).trans ?_
  rw [hW]
  show Ideal.ofBits .f32 0x00000000#32 + _ = _
  rw [Ideal.ofBits_zero_f32, zero_add]

/-- A row block by a column block is the whole product at the row and the column they are of. -/
theorem pay_block (X : (⟨2, ![4096, 4096]⟩ : Shape).Idx → Elt Ideal .f32) (W : (⟨2, ![4096, 2048]⟩ : Shape).Idx → Elt Ideal .f32) (c : Dev nD) (i : S4096x64.Idx) :
    k0_pay5 (Layout.block ⟨2, ![128, 4096]⟩ ⟨2, ![4096, 4096]⟩ 0 32 (rowOf i) X) (Layout.block ⟨2, ![4096, 64]⟩ ⟨2, ![4096, 2048]⟩ 1 32 c W) (inRow i)
      = Layout.block ⟨2, ![4096, 64]⟩ ⟨2, ![4096, 2048]⟩ 1 32 c (prod X W) (h := by decide) i := by
  obtain ⟨r, l, rfl⟩ : ∃ (r : Fin 4096) (l : Fin 64), i = ix2 r l := ⟨i 0, i 1, by funext a; fin_cases a <;> rfl⟩
  have hr : inRow (ix2 r l) = ix2 ⟨r.val % 128, Nat.mod_lt _ (by decide)⟩ l := by funext a; fin_cases a <;> rfl
  have hT : Layout.Tiles ⟨2, ![4096, 64]⟩ ⟨2, ![4096, 2048]⟩ 1 32 := by decide
  have hl : c.val * 64 + l.val < 2048 := by have : c.val < 32 := c.isLt; have := l.isLt; omega
  have hidx : hT.idx c (ix2 r l) = ix2 r ⟨c.val * 64 + l.val, hl⟩ := by
    funext a; apply Fin.ext; fin_cases a <;> rfl
  rw [hr, pay_apply, Layout.block_apply, hidx, prod_apply]
  refine Finset.sum_congr rfl fun k _ => ?_
  rw [Layout.block_apply, Layout.block_apply]
  congr 1
  · apply congrArg X
    funext a; apply Fin.ext
    fin_cases a
    · show r.val / 128 * 128 + r.val % 128 = r.val
      omega
    · rfl
  · apply congrArg W
    funext a; apply Fin.ext; fin_cases a <;> rfl

/-- A device's result is its columns of the whole product, if its arrays are its blocks of the whole arrays. -/
theorem out_block (m : (ℓ : Loc nD τ sig) → Buf (Elt Ideal) ℓ)
    (X : (⟨2, ![4096, 4096]⟩ : Shape).Idx → Elt Ideal .f32) (W : (⟨2, ![4096, 2048]⟩ : Shape).Idx → Elt Ideal .f32)
    (hX : ∀ c : Dev nD, m ((c : Thread nD τ).loc main_arg0) = Layout.block ⟨2, ![128, 4096]⟩ ⟨2, ![4096, 4096]⟩ 0 32 c X)
    (hW : ∀ c : Dev nD, m ((c : Thread nD τ).loc main_arg1) = Layout.block ⟨2, ![4096, 64]⟩ ⟨2, ![4096, 2048]⟩ 1 32 c W) (c : Dev nD) :
    outAt m c = Layout.block ⟨2, ![4096, 64]⟩ ⟨2, ![4096, 2048]⟩ 1 32 c (prod X W) := by
  funext i
  unfold outAt
  rw [xblk_eq, wblk_eq, hX, hW]
  exact pay_block X W c i

end Cert.Ring

end
-- ==== Proof.lean ====
/-
  The ring all-gather product of thirty-two devices: its claims.

  Each device holds a block of the rows of `x` and a block of the columns of `w`. Two rings, one each way, pass the
  blocks of `x` around; a device multiplies each block that reaches it by its own columns and stores the product in the
  block's rows of its result. Common.lean states the rings' cells and what each device owes, Pieces.lean and Memory.lean
  prove the body's steps, Hops.lean and Body.lean the body, Launch.lean the run and Value.lean its value.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

/-- The program at any float values runs to the end, its arguments as they were and its counters at zero. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.Ring.run_main (F := F) m ρ)

/-- The two kernel programs have the same text: the same bodies at the same labels. -/
theorem defs₀_eq {F : FTy → Type} [FloatOps F] : Cert.Kernel.defs₀ (F := F) = Cert.KernelIdeal.defs₀ := by
  unfold Cert.Kernel.defs₀ Cert.KernelIdeal.defs₀
  refine congrArg Defs.onTc ?_
  funext l a
  match l, a with
  | ⟨0, _⟩, (t, s) => rfl
  | ⟨_ + 1, h⟩, _ => exact absurd h (Nat.not_lt.2 (Nat.le_add_left _ _))
theorem defs_eq {F : FTy → Type} [FloatOps F] : Cert.Kernel.defs (F := F) = Cert.KernelIdeal.defs :=
  congrArg (Pipeline.defs Cert.KernelIdeal.pcfgs) defs₀_eq

theorem frame_kernel : Cert.quiescent_Kernel := by
  intro m ρ _
  rw [defs_eq]
  exact frame_any (F := Bits) m ρ

theorem frame_ideal : Cert.quiescent_KernelIdeal := fun m ρ _ => frame_any (F := Ideal) m ρ

/-- So runs the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result on each device is the device's columns of the reference's product. -/
theorem algebraic : Cert.algebraic_KernelIdeal_ReferenceIdeal := fun m ρ m' ρ' _ hagree =>
  ⟨Cert.Ring.prod (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)),
    (θ_run Cert.KernelIdeal.defs _ _).mono
      (fun _ h c => ⟨((h.1 c).1).trans (Cert.Ring.out_block m _ _ (fun d => (hagree d).1) (fun d => (hagree d).2) c), (h.1 c).2⟩)
      (Cert.Ring.run_main (F := Ideal) m ρ),
    (θ_run Cert.ReferenceIdeal.defs _ _).mono (fun _ h => ⟨(h 0).1, (h 0).2⟩) (Cert.ReferenceIdeal.Value.run (F := Ideal) m' ρ')⟩

theorem claim : Cert.Claim :=
  ⟨Cert.Kernel.Gen.facts, Cert.KernelIdeal.Gen.facts, Cert.ReferenceIdeal.Gen.facts, frame_kernel, frame_ideal, frame_reference, trivial, algebraic⟩

end Cert.Proof

end
